-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_range [hPre_unit_range : Cert.Pre_unit_range.Facts] (m : (ℓ : Loc Cert.KernelIdeal.nD Cert.KernelIdeal.τ Cert.KernelIdeal.sig) → Buf (Elt Ideal) ℓ) : Prop :=
  ∀ c : Dev Cert.KernelIdeal.nD,
    (Cert.Pre_unit_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_range [hPre_unit_range : Cert.Pre_unit_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_unit_range [hKernelIdeal : Cert.KernelIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_unit_range [hReferenceIdeal : Cert.ReferenceIdeal.Facts] [hPre_unit_range : Cert.Pre_unit_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "inv_npix" .f32 0x37A72F05#32 ((50176⁻¹ : ℝ) : EReal)

def algebraic_KernelIdeal_ReferenceIdeal_pre_unit_range [hKernelIdeal : Cert.KernelIdeal.Facts] [hReferenceIdeal : Cert.ReferenceIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_unit_range : Cert.Pre_unit_range.Facts),
    quiescent_Kernel (hKernel := hKernel)
    ∧ quiescent_KernelIdeal (hKernelIdeal := hKernelIdeal)
    ∧ quiescent_KernelIdeal_pre_unit_range (hKernelIdeal := hKernelIdeal) (hPre_unit_range := hPre_unit_range)
    ∧ quiescent_ReferenceIdeal (hReferenceIdeal := hReferenceIdeal)
    ∧ quiescent_ReferenceIdeal_pre_unit_range (hReferenceIdeal := hReferenceIdeal) (hPre_unit_range := hPre_unit_range)
    ∧ preserves_Kernel_KernelIdeal
    ∧ algebraic_KernelIdeal_ReferenceIdeal_pre_unit_range (hKernelIdeal := hKernelIdeal) (hReferenceIdeal := hReferenceIdeal) (hPre_unit_range := hPre_unit_range)
-- ==== Pre_unit_range.lean ====
abbrev S32x224x224x3 : Shape := ⟨4, ![32, 224, 224, 3]⟩
abbrev S_ : Shape := ⟨0, ![]⟩

class Facts : Prop where
  bcast_S_S32x224x224x3 : S_.BroadcastsInDim S32x224x224x3 (![] : Fin 0 → Fin S32x224x224x3.rank)
  reducesTo_S32x224x224x3_S_d0_1_2_3 : S32x224x224x3.ReducesTo [0, 1, 2, 3] S_
  h_S_ : 0 < S_.numel

variable [Facts]

def fn {F : FTy → Type} [FloatOps F] (main_arg0 : FVec F S32x224x224x3 .f32) : IVec S_ 1 :=
  let main_cst : FVec F S_ .f32 := constant S_ .f32 0x00000000#32
  let main_v0 : FVec F S32x224x224x3 .f32 := broadcastInDim S32x224x224x3 ![] bcast_S_S32x224x224x3 main_cst
  let main_v1 : IVec S32x224x224x3 1 := cmpf .oge main_arg0 main_v0
  let main_cst_0 : FVec F S_ .f32 := constant S_ .f32 0x3F800000#32
  let main_v2 : FVec F S32x224x224x3 .f32 := broadcastInDim S32x224x224x3 ![] bcast_S_S32x224x224x3 main_cst_0
  let main_v3 : IVec S32x224x224x3 1 := cmpf .ole main_arg0 main_v2
  let main_v4 : IVec S32x224x224x3 1 := andi main_v1 main_v3
  let main_c : IVec S_ 1 := constantI S_ 1 1#1
  let main_v5 : IVec S_ 1 := (fun x v => Host.reduce IntOp.andi x v reducesTo_S32x224x224x3_S_d0_1_2_3 h_S_) main_v4 main_c
  main_v5
-- ==== Kernel.lean ====
abbrev S32x224x224x3 : Shape := ⟨4, ![32, 224, 224, 3]⟩
abbrev S32x224x672 : Shape := ⟨3, ![32, 224, 672]⟩
abbrev S32x9x128 : Shape := ⟨3, ![32, 9, 128]⟩
abbrev S1x224x672 : Shape := ⟨3, ![1, 224, 672]⟩
abbrev S1x9x128 : Shape := ⟨3, ![1, 9, 128]⟩
abbrev S672x672 : Shape := ⟨2, ![672, 672]⟩
abbrev S224x672 : Shape := ⟨2, ![224, 672]⟩
abbrev S224x224 : Shape := ⟨2, ![224, 224]⟩
abbrev S1x224x224 : Shape := ⟨3, ![1, 224, 224]⟩
abbrev S1 : Shape := ⟨1, ![1]⟩
abbrev S1x1x1 : Shape := ⟨3, ![1, 1, 1]⟩
abbrev S9x128 : Shape := ⟨2, ![9, 128]⟩
abbrev S32x1152 : Shape := ⟨2, ![32, 1152]⟩

abbrev nBuf : Space → Nat
  | .hbm => 4
  | .vmem => 5
  | .smem => 0
  | _ => 0

abbrev bufTy : (tb : Table) → Fin (tcTables nBuf tb) → BufTy
  | .hbm, ⟨0, _⟩ => ⟨S32x224x224x3, .f32⟩
  | .hbm, ⟨1, _⟩ => ⟨S32x224x672, .f32⟩
  | .hbm, ⟨2, _⟩ => ⟨S32x9x128, .f32⟩
  | .hbm, ⟨3, _⟩ => ⟨S32x1152, .f32⟩
  | .local _ .vmem, ⟨0, _⟩ => ⟨S1x224x672, .f32⟩
  | .local _ .vmem, ⟨1, _⟩ => ⟨S1x224x672, .f32⟩
  | .local _ .vmem, ⟨2, _⟩ => ⟨S1x9x128, .f32⟩
  | .local _ .vmem, ⟨3, _⟩ => ⟨S1x9x128, .f32⟩
  | .local _ .vmem, ⟨4, _⟩ => ⟨S672x672, .bf16⟩
  | _, _ => ⟨S32x224x224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x224x672 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "inv_npix" => some ((50176⁻¹ : ℝ) : EReal)
  | _ => none
-- ==== ReferenceIdeal.lean ====
abbrev S32x224x224x3 : Shape := ⟨4, ![32, 224, 224, 3]⟩
abbrev S32x224x224x1 : Shape := ⟨4, ![32, 224, 224, 1]⟩
abbrev S32x224x224 : Shape := ⟨3, ![32, 224, 224]⟩
abbrev S_ : Shape := ⟨0, ![]⟩
abbrev S32x226x226 : Shape := ⟨3, ![32, 226, 226]⟩
abbrev S32x224x224x8 : Shape := ⟨4, ![32, 224, 224, 8]⟩
abbrev S32x401408 : Shape := ⟨2, ![32, 401408]⟩
abbrev S32x256 : Shape := ⟨2, ![32, 256]⟩
abbrev S32 : Shape := ⟨1, ![32]⟩
abbrev S32x1 : Shape := ⟨2, ![32, 1]⟩
abbrev S32x401408x1 : Shape := ⟨3, ![32, 401408, 1]⟩
abbrev S32x401408x2 : Shape := ⟨3, ![32, 401408, 2]⟩
abbrev S32x50176 : Shape := ⟨2, ![32, 50176]⟩
abbrev S32x1x1 : Shape := ⟨3, ![32, 1, 1]⟩
abbrev S32x128 : Shape := ⟨2, ![32, 128]⟩
abbrev S32x50176x1 : Shape := ⟨3, ![32, 50176, 1]⟩
abbrev S32x50176x2 : Shape := ⟨3, ![32, 50176, 2]⟩
abbrev S32x1152 : Shape := ⟨2, ![32, 1152]⟩

abbrev nBuf : Space → Nat
  | .hbm => 465
  | .vmem => 0
  | .smem => 0
  | _ => 0

abbrev hbmTy0_0 (i : Nat) : BufTy := match i % 128 with
  | 0 => ⟨S32x224x224x3, .f32⟩
  | 1 => ⟨S32x224x224x1, .f32⟩
  | 2 => ⟨S32x224x224, .f32⟩
  | 3 => ⟨S32x224x224x1, .f32⟩
  | 4 => ⟨S32x224x224, .f32⟩
  | 5 => ⟨S32x224x224x1, .f32⟩
  | 6 => ⟨S32x224x224, .f32⟩
  | 7 => ⟨S_, .f32⟩
  | 8 => ⟨S32x224x224, .f32⟩
  | 9 => ⟨S_, .f32⟩
  | 10 => ⟨S32x224x224, .f32⟩
  | 11 => ⟨S32x224x224, .f32⟩
  | 12 => ⟨S_, .f32⟩
  | 13 => ⟨S32x224x224, .f32⟩
  | 14 => ⟨S32x224x224, .i1⟩
  | 15 => ⟨S_, .f32⟩
  | 16 => ⟨S_, .f32⟩
  | 17 => ⟨S32x224x224, .f32⟩
  | 18 => ⟨S32x224x224, .f32⟩
  | 19 => ⟨S_, .f32⟩
  | 20 => ⟨S32x224x224, .f32⟩
  | 21 => ⟨S32x224x224, .i1⟩
  | 22 => ⟨S_, .f32⟩
  | 23 => ⟨S32x224x224, .f32⟩
  | 24 => ⟨S32x224x224, .i1⟩
  | 25 => ⟨S_, .f32⟩
  | 26 => ⟨S_, .f32⟩
  | 27 => ⟨S32x224x224, .f32⟩
  | 28 => ⟨S32x224x224, .f32⟩
  | 29 => ⟨S32x224x224, .f32⟩
  | 30 => ⟨S_, .f32⟩
  | 31 => ⟨S_, .f32⟩
  | 32 => ⟨S32x224x224, .f32⟩
  | 33 => ⟨S32x224x224, .f32⟩
  | 34 => ⟨S32x224x224, .f32⟩
  | 35 => ⟨S32x224x224, .f32⟩
  | 36 => ⟨S_, .f32⟩
  | 37 => ⟨S_, .f32⟩
  | 38 => ⟨S32x224x224, .f32⟩
  | 39 => ⟨S32x224x224, .f32⟩
  | 40 => ⟨S_, .f32⟩
  | 41 => ⟨S32x224x224, .f32⟩
  | 42 => ⟨S32x224x224, .i1⟩
  | 43 => ⟨S_, .f32⟩
  | 44 => ⟨S32x224x224, .f32⟩
  | 45 => ⟨S32x224x224, .i1⟩
  | 46 => ⟨S_, .f32⟩
  | 47 => ⟨S_, .i1⟩
  | 48 => ⟨S32x224x224, .i1⟩
  | 49 => ⟨S32x224x224, .i1⟩
  | 50 => ⟨S32x224x224, .i1⟩
  | 51 => ⟨S32x224x224, .f32⟩
  | 52 => ⟨S32x224x224, .f32⟩
  | 53 => ⟨S32x224x224, .f32⟩
  | 54 => ⟨S32x224x224, .f32⟩
  | 55 => ⟨S32x224x224, .f32⟩
  | 56 => ⟨S_, .f32⟩
  | 57 => ⟨S32x224x224, .f32⟩
  | 58 => ⟨S32x224x224, .f32⟩
  | 59 => ⟨S32x224x224, .f32⟩
  | 60 => ⟨S32x224x224, .f32⟩
  | 61 => ⟨S_, .f32⟩
  | 62 => ⟨S32x224x224, .f32⟩
  | 63 => ⟨S32x224x224, .f32⟩
  | 64 => ⟨S32x224x224, .i1⟩
  | 65 => ⟨S32x224x224, .i1⟩
  | 66 => ⟨S32x224x224, .f32⟩
  | 67 => ⟨S32x224x224, .f32⟩
  | 68 => ⟨S_, .f32⟩
  | 69 => ⟨S32x224x224, .f32⟩
  | 70 => ⟨S32x224x224, .f32⟩
  | 71 => ⟨S_, .f32⟩
  | 72 => ⟨S32x224x224, .f32⟩
  | 73 => ⟨S32x224x224, .i1⟩
  | 74 => ⟨S_, .f32⟩
  | 75 => ⟨S_, .f32⟩
  | 76 => ⟨S32x224x224, .f32⟩
  | 77 => ⟨S32x224x224, .f32⟩
  | 78 => ⟨S32x224x224x1, .f32⟩
  | 79 => ⟨S32x224x224x1, .f32⟩
  | 80 => ⟨S32x224x224x1, .f32⟩
  | 81 => ⟨S32x224x224x3, .f32⟩
  | 82 => ⟨S32x224x224x1, .f32⟩
  | 83 => ⟨S32x224x224, .f32⟩
  | 84 => ⟨S_, .i32⟩
  | 85 => ⟨S_, .f32⟩
  | 86 => ⟨S32x226x226, .f32⟩
  | 87 => ⟨S32x224x224, .f32⟩
  | 88 => ⟨S32x224x224, .f32⟩
  | 89 => ⟨S32x224x224, .f32⟩
  | 90 => ⟨S32x224x224, .f32⟩
  | 91 => ⟨S32x224x224, .f32⟩
  | 92 => ⟨S32x224x224, .f32⟩
  | 93 => ⟨S32x224x224, .f32⟩
  | 94 => ⟨S32x224x224, .f32⟩
  | 95 => ⟨S32x224x224x1, .f32⟩
  | 96 => ⟨S32x224x224x1, .f32⟩
  | 97 => ⟨S32x224x224x1, .f32⟩
  | 98 => ⟨S32x224x224x1, .f32⟩
  | 99 => ⟨S32x224x224x1, .f32⟩
  | 100 => ⟨S32x224x224x1, .f32⟩
  | 101 => ⟨S32x224x224x1, .f32⟩
  | 102 => ⟨S32x224x224x1, .f32⟩
  | 103 => ⟨S32x224x224x8, .f32⟩
  | 104 => ⟨S32x401408, .f32⟩
  | 105 => ⟨S_, .f32⟩
  | 106 => ⟨S32x401408, .f32⟩
  | 107 => ⟨S32x401408, .f32⟩
  | 108 => ⟨S_, .f32⟩
  | 109 => ⟨S32x401408, .f32⟩
  | 110 => ⟨S32x401408, .f32⟩
  | 111 => ⟨S_, .f32⟩
  | 112 => ⟨S32x401408, .f32⟩
  | 113 => ⟨S32x401408, .f32⟩
  | 114 => ⟨S32x401408, .i32⟩
  | 115 => ⟨S_, .i32⟩
  | 116 => ⟨S_, .i32⟩
  | 117 => ⟨S_, .i32⟩
  | 118 => ⟨S32x401408, .i32⟩
  | 119 => ⟨S32x401408, .i32⟩
  | 120 => ⟨S_, .i32⟩
  | 121 => ⟨S32x401408, .i32⟩
  | 122 => ⟨S32x401408, .i32⟩
  | 123 => ⟨S_, .f32⟩
  | 124 => ⟨S32x256, .f32⟩
  | 125 => ⟨S32, .i32⟩
  | 126 => ⟨S32x1, .i32⟩
  | 127 => ⟨S_, .i32⟩
  | _ => ⟨S32x224x224x3, .f32⟩

abbrev hbmTy0_1 (i : Nat) : BufTy := match i % 128 with
  | 0 => ⟨S32x1, .i32⟩
  | 1 => ⟨S32x1, .i1⟩
  | 2 => ⟨S_, .i32⟩
  | 3 => ⟨S32x1, .i32⟩
  | 4 => ⟨S32x1, .i32⟩
  | 5 => ⟨S32x1, .i32⟩
  | 6 => ⟨S_, .i32⟩
  | 7 => ⟨S32x401408, .i32⟩
  | 8 => ⟨S32x401408, .i1⟩
  | 9 => ⟨S_, .i32⟩
  | 10 => ⟨S32x401408, .i32⟩
  | 11 => ⟨S32x401408, .i32⟩
  | 12 => ⟨S32x401408, .i32⟩
  | 13 => ⟨S32x401408, .i32⟩
  | 14 => ⟨S32x401408x1, .i32⟩
  | 15 => ⟨S32x401408x1, .i32⟩
  | 16 => ⟨S32x401408x2, .i32⟩
  | 17 => ⟨S_, .f32⟩
  | 18 => ⟨S32x401408, .f32⟩
  | 19 => ⟨S32x256, .f32⟩
  | 20 => ⟨S32x50176, .f32⟩
  | 21 => ⟨S_, .f32⟩
  | 22 => ⟨S32, .f32⟩
  | 23 => ⟨S_, .f32⟩
  | 24 => ⟨S32, .f32⟩
  | 25 => ⟨S32, .f32⟩
  | 26 => ⟨S32x1x1, .f32⟩
  | 27 => ⟨S32x224x224, .f32⟩
  | 28 => ⟨S32x224x224, .i1⟩
  | 29 => ⟨S_, .f32⟩
  | 30 => ⟨S_, .f32⟩
  | 31 => ⟨S32x224x224, .f32⟩
  | 32 => ⟨S32x224x224, .f32⟩
  | 33 => ⟨S32x224x224, .f32⟩
  | 34 => ⟨S32x50176, .f32⟩
  | 35 => ⟨S_, .f32⟩
  | 36 => ⟨S32x50176, .f32⟩
  | 37 => ⟨S32x50176, .f32⟩
  | 38 => ⟨S_, .f32⟩
  | 39 => ⟨S32x50176, .f32⟩
  | 40 => ⟨S32x50176, .f32⟩
  | 41 => ⟨S_, .f32⟩
  | 42 => ⟨S32x50176, .f32⟩
  | 43 => ⟨S32x50176, .f32⟩
  | 44 => ⟨S32x50176, .i32⟩
  | 45 => ⟨S_, .i32⟩
  | 46 => ⟨S_, .i32⟩
  | 47 => ⟨S_, .i32⟩
  | 48 => ⟨S32x50176, .i32⟩
  | 49 => ⟨S32x50176, .i32⟩
  | 50 => ⟨S_, .i32⟩
  | 51 => ⟨S32x50176, .i32⟩
  | 52 => ⟨S32x50176, .i32⟩
  | 53 => ⟨S_, .f32⟩
  | 54 => ⟨S32x128, .f32⟩
  | 55 => ⟨S32, .i32⟩
  | 56 => ⟨S32x1, .i32⟩
  | 57 => ⟨S_, .i32⟩
  | 58 => ⟨S32x1, .i32⟩
  | 59 => ⟨S32x1, .i1⟩
  | 60 => ⟨S_, .i32⟩
  | 61 => ⟨S32x1, .i32⟩
  | 62 => ⟨S32x1, .i32⟩
  | 63 => ⟨S32x1, .i32⟩
  | 64 => ⟨S_, .i32⟩
  | 65 => ⟨S32x50176, .i32⟩
  | 66 => ⟨S32x50176, .i1⟩
  | 67 => ⟨S_, .i32⟩
  | 68 => ⟨S32x50176, .i32⟩
  | 69 => ⟨S32x50176, .i32⟩
  | 70 => ⟨S32x50176, .i32⟩
  | 71 => ⟨S32x50176, .i32⟩
  | 72 => ⟨S32x50176x1, .i32⟩
  | 73 => ⟨S32x50176x1, .i32⟩
  | 74 => ⟨S32x50176x2, .i32⟩
  | 75 => ⟨S_, .f32⟩
  | 76 => ⟨S32x50176, .f32⟩
  | 77 => ⟨S32x128, .f32⟩
  | 78 => ⟨S32x224x224x1, .f32⟩
  | 79 => ⟨S32x224x224, .f32⟩
  | 80 => ⟨S_, .i32⟩
  | 81 => ⟨S_, .f32⟩
  | 82 => ⟨S32x226x226, .f32⟩
  | 83 => ⟨S32x224x224, .f32⟩
  | 84 => ⟨S32x224x224, .f32⟩
  | 85 => ⟨S32x224x224, .f32⟩
  | 86 => ⟨S32x224x224, .f32⟩
  | 87 => ⟨S32x224x224, .f32⟩
  | 88 => ⟨S32x224x224, .f32⟩
  | 89 => ⟨S32x224x224, .f32⟩
  | 90 => ⟨S32x224x224, .f32⟩
  | 91 => ⟨S32x224x224x1, .f32⟩
  | 92 => ⟨S32x224x224x1, .f32⟩
  | 93 => ⟨S32x224x224x1, .f32⟩
  | 94 => ⟨S32x224x224x1, .f32⟩
  | 95 => ⟨S32x224x224x1, .f32⟩
  | 96 => ⟨S32x224x224x1, .f32⟩
  | 97 => ⟨S32x224x224x1, .f32⟩
  | 98 => ⟨S32x224x224x1, .f32⟩
  | 99 => ⟨S32x224x224x8, .f32⟩
  | 100 => ⟨S32x401408, .f32⟩
  | 101 => ⟨S_, .f32⟩
  | 102 => ⟨S32x401408, .f32⟩
  | 103 => ⟨S32x401408, .f32⟩
  | 104 => ⟨S_, .f32⟩
  | 105 => ⟨S32x401408, .f32⟩
  | 106 => ⟨S32x401408, .f32⟩
  | 107 => ⟨S_, .f32⟩
  | 108 => ⟨S32x401408, .f32⟩
  | 109 => ⟨S32x401408, .f32⟩
  | 110 => ⟨S32x401408, .i32⟩
  | 111 => ⟨S_, .i32⟩
  | 112 => ⟨S_, .i32⟩
  | 113 => ⟨S_, .i32⟩
  | 114 => ⟨S32x401408, .i32⟩
  | 115 => ⟨S32x401408, .i32⟩
  | 116 => ⟨S_, .i32⟩
  | 117 => ⟨S32x401408, .i32⟩
  | 118 => ⟨S32x401408, .i32⟩
  | 119 => ⟨S_, .f32⟩
  | 120 => ⟨S32x256, .f32⟩
  | 121 => ⟨S32, .i32⟩
  | 122 => ⟨S32x1, .i32⟩
  | 123 => ⟨S_, .i32⟩
  | 124 => ⟨S32x1, .i32⟩
  | 125 => ⟨S32x1, .i1⟩
  | 126 => ⟨S_, .i32⟩
  | 127 => ⟨S32x1, .i32⟩
  | _ => ⟨S32x224x224x3, .f32⟩

abbrev hbmTy0_2 (i : Nat) : BufTy := match i % 128 with
  | 0 => ⟨S32x1, .i32⟩
  | 1 => ⟨S32x1, .i32⟩
  | 2 => ⟨S_, .i32⟩
  | 3 => ⟨S32x401408, .i32⟩
  | 4 => ⟨S32x401408, .i1⟩
  | 5 => ⟨S_, .i32⟩
  | 6 => ⟨S32x401408, .i32⟩
  | 7 => ⟨S32x401408, .i32⟩
  | 8 => ⟨S32x401408, .i32⟩
  | 9 => ⟨S32x401408, .i32⟩
  | 10 => ⟨S32x401408x1, .i32⟩
  | 11 => ⟨S32x401408x1, .i32⟩
  | 12 => ⟨S32x401408x2, .i32⟩
  | 13 => ⟨S_, .f32⟩
  | 14 => ⟨S32x401408, .f32⟩
  | 15 => ⟨S32x256, .f32⟩
  | 16 => ⟨S32x50176, .f32⟩
  | 17 => ⟨S_, .f32⟩
  | 18 => ⟨S32, .f32⟩
  | 19 => ⟨S_, .f32⟩
  | 20 => ⟨S32, .f32⟩
  | 21 => ⟨S32, .f32⟩
  | 22 => ⟨S32x1x1, .f32⟩
  | 23 => ⟨S32x224x224, .f32⟩
  | 24 => ⟨S32x224x224, .i1⟩
  | 25 => ⟨S_, .f32⟩
  | 26 => ⟨S_, .f32⟩
  | 27 => ⟨S32x224x224, .f32⟩
  | 28 => ⟨S32x224x224, .f32⟩
  | 29 => ⟨S32x224x224, .f32⟩
  | 30 => ⟨S32x50176, .f32⟩
  | 31 => ⟨S_, .f32⟩
  | 32 => ⟨S32x50176, .f32⟩
  | 33 => ⟨S32x50176, .f32⟩
  | 34 => ⟨S_, .f32⟩
  | 35 => ⟨S32x50176, .f32⟩
  | 36 => ⟨S32x50176, .f32⟩
  | 37 => ⟨S_, .f32⟩
  | 38 => ⟨S32x50176, .f32⟩
  | 39 => ⟨S32x50176, .f32⟩
  | 40 => ⟨S32x50176, .i32⟩
  | 41 => ⟨S_, .i32⟩
  | 42 => ⟨S_, .i32⟩
  | 43 => ⟨S_, .i32⟩
  | 44 => ⟨S32x50176, .i32⟩
  | 45 => ⟨S32x50176, .i32⟩
  | 46 => ⟨S_, .i32⟩
  | 47 => ⟨S32x50176, .i32⟩
  | 48 => ⟨S32x50176, .i32⟩
  | 49 => ⟨S_, .f32⟩
  | 50 => ⟨S32x128, .f32⟩
  | 51 => ⟨S32, .i32⟩
  | 52 => ⟨S32x1, .i32⟩
  | 53 => ⟨S_, .i32⟩
  | 54 => ⟨S32x1, .i32⟩
  | 55 => ⟨S32x1, .i1⟩
  | 56 => ⟨S_, .i32⟩
  | 57 => ⟨S32x1, .i32⟩
  | 58 => ⟨S32x1, .i32⟩
  | 59 => ⟨S32x1, .i32⟩
  | 60 => ⟨S_, .i32⟩
  | 61 => ⟨S32x50176, .i32⟩
  | 62 => ⟨S32x50176, .i1⟩
  | 63 => ⟨S_, .i32⟩
  | 64 => ⟨S32x50176, .i32⟩
  | 65 => ⟨S32x50176, .i32⟩
  | 66 => ⟨S32x50176, .i32⟩
  | 67 => ⟨S32x50176, .i32⟩
  | 68 => ⟨S32x50176x1, .i32⟩
  | 69 => ⟨S32x50176x1, .i32⟩
  | 70 => ⟨S32x50176x2, .i32⟩
  | 71 => ⟨S_, .f32⟩
  | 72 => ⟨S32x50176, .f32⟩
  | 73 => ⟨S32x128, .f32⟩
  | 74 => ⟨S32x224x224x1, .f32⟩
  | 75 => ⟨S32x224x224, .f32⟩
  | 76 => ⟨S_, .i32⟩
  | 77 => ⟨S_, .f32⟩
  | 78 => ⟨S32x226x226, .f32⟩
  | 79 => ⟨S32x224x224, .f32⟩
  | 80 => ⟨S32x224x224, .f32⟩
  | 81 => ⟨S32x224x224, .f32⟩
  | 82 => ⟨S32x224x224, .f32⟩
  | 83 => ⟨S32x224x224, .f32⟩
  | 84 => ⟨S32x224x224, .f32⟩
  | 85 => ⟨S32x224x224, .f32⟩
  | 86 => ⟨S32x224x224, .f32⟩
  | 87 => ⟨S32x224x224x1, .f32⟩
  | 88 => ⟨S32x224x224x1, .f32⟩
  | 89 => ⟨S32x224x224x1, .f32⟩
  | 90 => ⟨S32x224x224x1, .f32⟩
  | 91 => ⟨S32x224x224x1, .f32⟩
  | 92 => ⟨S32x224x224x1, .f32⟩
  | 93 => ⟨S32x224x224x1, .f32⟩
  | 94 => ⟨S32x224x224x1, .f32⟩
  | 95 => ⟨S32x224x224x8, .f32⟩
  | 96 => ⟨S32x401408, .f32⟩
  | 97 => ⟨S_, .f32⟩
  | 98 => ⟨S32x401408, .f32⟩
  | 99 => ⟨S32x401408, .f32⟩
  | 100 => ⟨S_, .f32⟩
  | 101 => ⟨S32x401408, .f32⟩
  | 102 => ⟨S32x401408, .f32⟩
  | 103 => ⟨S_, .f32⟩
  | 104 => ⟨S32x401408, .f32⟩
  | 105 => ⟨S32x401408, .f32⟩
  | 106 => ⟨S32x401408, .i32⟩
  | 107 => ⟨S_, .i32⟩
  | 108 => ⟨S_, .i32⟩
  | 109 => ⟨S_, .i32⟩
  | 110 => ⟨S32x401408, .i32⟩
  | 111 => ⟨S32x401408, .i32⟩
  | 112 => ⟨S_, .i32⟩
  | 113 => ⟨S32x401408, .i32⟩
  | 114 => ⟨S32x401408, .i32⟩
  | 115 => ⟨S_, .f32⟩
  | 116 => ⟨S32x256, .f32⟩
  | 117 => ⟨S32, .i32⟩
  | 118 => ⟨S32x1, .i32⟩
  | 119 => ⟨S_, .i32⟩
  | 120 => ⟨S32x1, .i32⟩
  | 121 => ⟨S32x1, .i1⟩
  | 122 => ⟨S_, .i32⟩
  | 123 => ⟨S32x1, .i32⟩
  | 124 => ⟨S32x1, .i32⟩
  | 125 => ⟨S32x1, .i32⟩
  | 126 => ⟨S_, .i32⟩
  | 127 => ⟨S32x401408, .i32⟩
  | _ => ⟨S32x224x224x3, .f32⟩

abbrev hbmTy0_3 (i : Nat) : BufTy := match i % 128 with
  | 0 => ⟨S32x401408, .i1⟩
  | 1 => ⟨S_, .i32⟩
  | 2 => ⟨S32x401408, .i32⟩
  | 3 => ⟨S32x401408, .i32⟩
  | 4 => ⟨S32x401408, .i32⟩
  | 5 => ⟨S32x401408, .i32⟩
  | 6 => ⟨S32x401408x1, .i32⟩
  | 7 => ⟨S32x401408x1, .i32⟩
  | 8 => ⟨S32x401408x2, .i32⟩
  | 9 => ⟨S_, .f32⟩
  | 10 => ⟨S32x401408, .f32⟩
  | 11 => ⟨S32x256, .f32⟩
  | 12 => ⟨S32x50176, .f32⟩
  | 13 => ⟨S_, .f32⟩
  | 14 => ⟨S32, .f32⟩
  | 15 => ⟨S_, .f32⟩
  | 16 => ⟨S32, .f32⟩
  | 17 => ⟨S32, .f32⟩
  | 18 => ⟨S32x1x1, .f32⟩
  | 19 => ⟨S32x224x224, .f32⟩
  | 20 => ⟨S32x224x224, .i1⟩
  | 21 => ⟨S_, .f32⟩
  | 22 => ⟨S_, .f32⟩
  | 23 => ⟨S32x224x224, .f32⟩
  | 24 => ⟨S32x224x224, .f32⟩
  | 25 => ⟨S32x224x224, .f32⟩
  | 26 => ⟨S32x50176, .f32⟩
  | 27 => ⟨S_, .f32⟩
  | 28 => ⟨S32x50176, .f32⟩
  | 29 => ⟨S32x50176, .f32⟩
  | 30 => ⟨S_, .f32⟩
  | 31 => ⟨S32x50176, .f32⟩
  | 32 => ⟨S32x50176, .f32⟩
  | 33 => ⟨S_, .f32⟩
  | 34 => ⟨S32x50176, .f32⟩
  | 35 => ⟨S32x50176, .f32⟩
  | 36 => ⟨S32x50176, .i32⟩
  | 37 => ⟨S_, .i32⟩
  | 38 => ⟨S_, .i32⟩
  | 39 => ⟨S_, .i32⟩
  | 40 => ⟨S32x50176, .i32⟩
  | 41 => ⟨S32x50176, .i32⟩
  | 42 => ⟨S_, .i32⟩
  | 43 => ⟨S32x50176, .i32⟩
  | 44 => ⟨S32x50176, .i32⟩
  | 45 => ⟨S_, .f32⟩
  | 46 => ⟨S32x128, .f32⟩
  | 47 => ⟨S32, .i32⟩
  | 48 => ⟨S32x1, .i32⟩
  | 49 => ⟨S_, .i32⟩
  | 50 => ⟨S32x1, .i32⟩
  | 51 => ⟨S32x1, .i1⟩
  | 52 => ⟨S_, .i32⟩
  | 53 => ⟨S32x1, .i32⟩
  | 54 => ⟨S32x1, .i32⟩
  | 55 => ⟨S32x1, .i32⟩
  | 56 => ⟨S_, .i32⟩
  | 57 => ⟨S32x50176, .i32⟩
  | 58 => ⟨S32x50176, .i1⟩
  | 59 => ⟨S_, .i32⟩
  | 60 => ⟨S32x50176, .i32⟩
  | 61 => ⟨S32x50176, .i32⟩
  | 62 => ⟨S32x50176, .i32⟩
  | 63 => ⟨S32x50176, .i32⟩
  | 64 => ⟨S32x50176x1, .i32⟩
  | 65 => ⟨S32x50176x1, .i32⟩
  | 66 => ⟨S32x50176x2, .i32⟩
  | 67 => ⟨S_, .f32⟩
  | 68 => ⟨S32x50176, .f32⟩
  | 69 => ⟨S32x128, .f32⟩
  | 70 => ⟨S32x1152, .f32⟩
  | 71 => ⟨S32x1152, .f32⟩
  | 72 => ⟨S_, .f32⟩
  | 73 => ⟨S32, .f32⟩
  | 74 => ⟨S32x1, .f32⟩
  | 75 => ⟨S_, .f32⟩
  | 76 => ⟨S32x1, .f32⟩
  | 77 => ⟨S32x1, .f32⟩
  | 78 => ⟨S32x1, .f32⟩
  | 79 => ⟨S32x1152, .f32⟩
  | 80 => ⟨S32x1152, .f32⟩
  | _ => ⟨S32x224x224x3, .f32⟩

abbrev hbmTy (i : Nat) : BufTy := match i / 128 with
  | 0 => hbmTy0_0 i
  | 1 => hbmTy0_1 i
  | 2 => hbmTy0_2 i
  | 3 => hbmTy0_3 i
  | _ => ⟨S32x224x224x3, .f32⟩

abbrev bufTy : (tb : Table) → Fin (tcTables nBuf tb) → BufTy
  | .hbm, ⟨i, _⟩ => hbmTy i
  | _, _ => ⟨S32x224x224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_call2_v0 : Ref sig .tc := ⟨.hbm, 31, rfl⟩
abbrev main_call2_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_cst : Ref sig .tc := ⟨.hbm, 40, rfl⟩
abbrev main_call3_v3 : Ref sig .tc := ⟨.hbm, 41, rfl⟩
abbrev main_call3_v4 : Ref sig .tc := ⟨.hbm, 42, rfl⟩
abbrev main_call3_cst_0 : Ref sig .tc := ⟨.hbm, 43, rfl⟩
abbrev main_call3_v5 : Ref sig .tc := ⟨.hbm, 44, rfl⟩
abbrev main_call3_v6 : Ref sig .tc := ⟨.hbm, 45, rfl⟩
abbrev main_call3_cst_1 : Ref sig .tc := ⟨.hbm, 46, rfl⟩
abbrev main_call3_v7 : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_call3_v12 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_8 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_9 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_10 : Ref sig .tc := ⟨.hbm, 68, rfl⟩
abbrev main_v34 : Ref sig .tc := ⟨.hbm, 69, rfl⟩
abbrev main_v35 : Ref sig .tc := ⟨.hbm, 70, rfl⟩
abbrev main_cst_11 : Ref sig .tc := ⟨.hbm, 71, rfl⟩
abbrev main_v36 : Ref sig .tc := ⟨.hbm, 72, rfl⟩
abbrev main_v37 : Ref sig .tc := ⟨.hbm, 73, rfl⟩
abbrev main_cst_12 : Ref sig .tc := ⟨.hbm, 74, rfl⟩
abbrev main_call6_v0 : Ref sig .tc := ⟨.hbm, 75, rfl⟩
abbrev main_call6_v1 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c : Ref sig .tc := ⟨.hbm, 84, rfl⟩
abbrev main_call7_v0 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_v65 : Ref sig .tc := ⟨.hbm, 107, rfl⟩
abbrev main_cst_14 : Ref sig .tc := ⟨.hbm, 108, rfl⟩
abbrev main_v66 : Ref sig .tc := ⟨.hbm, 109, rfl⟩
abbrev main_v67 : Ref sig .tc := ⟨.hbm, 110, rfl⟩
abbrev main_cst_15 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_16 : Ref sig .tc := ⟨.hbm, 115, rfl⟩
abbrev main_c_17 : Ref sig .tc := ⟨.hbm, 116, rfl⟩
abbrev main_call8_v0 : Ref sig .tc := ⟨.hbm, 117, rfl⟩
abbrev main_call8_v1 : Ref sig .tc := ⟨.hbm, 118, rfl⟩
abbrev main_call8_v2 : Ref sig .tc := ⟨.hbm, 119, rfl⟩
abbrev main_call8_v3 : Ref sig .tc := ⟨.hbm, 120, rfl⟩
abbrev main_call8_v4 : Ref sig .tc := ⟨.hbm, 121, rfl⟩
abbrev main_v71 : Ref sig .tc := ⟨.hbm, 122, rfl⟩
abbrev main_cst_18 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_c_19 : Ref sig .tc := ⟨.hbm, 127, rfl⟩
abbrev main_v75 : Ref sig .tc := ⟨.hbm, 128, rfl⟩
abbrev main_v76 : Ref sig .tc := ⟨.hbm, 129, rfl⟩
abbrev main_c_20 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_21 : Ref sig .tc := ⟨.hbm, 134, rfl⟩
abbrev main_v80 : Ref sig .tc := ⟨.hbm, 135, rfl⟩
abbrev main_v81 : Ref sig .tc := ⟨.hbm, 136, rfl⟩
abbrev main_c_22 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_23 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_24 : Ref sig .tc := ⟨.hbm, 149, rfl⟩
abbrev main_v92 : Ref sig .tc := ⟨.hbm, 150, rfl⟩
abbrev main_cst_25 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_26 : Ref sig .tc := ⟨.hbm, 157, rfl⟩
abbrev main_cst_27 : Ref sig .tc := ⟨.hbm, 158, rfl⟩
abbrev main_call9_v0 : Ref sig .tc := ⟨.hbm, 159, rfl⟩
abbrev main_call9_v1 : Ref sig .tc := ⟨.hbm, 160, rfl⟩
abbrev main_v98 : Ref sig .tc := ⟨.hbm, 161, rfl⟩
abbrev main_v99 : Ref sig .tc := ⟨.hbm, 162, rfl⟩
abbrev main_cst_28 : Ref sig .tc := ⟨.hbm, 163, rfl⟩
abbrev main_v100 : Ref sig .tc := ⟨.hbm, 164, rfl⟩
abbrev main_v101 : Ref sig .tc := ⟨.hbm, 165, rfl⟩
abbrev main_cst_29 : Ref sig .tc := ⟨.hbm, 166, rfl⟩
abbrev main_v102 : Ref sig .tc := ⟨.hbm, 167, rfl⟩
abbrev main_v103 : Ref sig .tc := ⟨.hbm, 168, rfl⟩
abbrev main_cst_30 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_c_31 : Ref sig .tc := ⟨.hbm, 173, rfl⟩
abbrev main_c_32 : Ref sig .tc := ⟨.hbm, 174, rfl⟩
abbrev main_call10_v0 : Ref sig .tc := ⟨.hbm, 175, rfl⟩
abbrev main_call10_v1 : Ref sig .tc := ⟨.hbm, 176, rfl⟩
abbrev main_call10_v2 : Ref sig .tc := ⟨.hbm, 177, rfl⟩
abbrev main_call10_v3 : Ref sig .tc := ⟨.hbm, 178, rfl⟩
abbrev main_call10_v4 : Ref sig .tc := ⟨.hbm, 179, rfl⟩
abbrev main_v107 : Ref sig .tc := ⟨.hbm, 180, rfl⟩
abbrev main_cst_33 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_c_34 : Ref sig .tc := ⟨.hbm, 185, rfl⟩
abbrev main_v111 : Ref sig .tc := ⟨.hbm, 186, rfl⟩
abbrev main_v112 : Ref sig .tc := ⟨.hbm, 187, rfl⟩
abbrev main_c_35 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_c_36 : Ref sig .tc := ⟨.hbm, 192, rfl⟩
abbrev main_v116 : Ref sig .tc := ⟨.hbm, 193, rfl⟩
abbrev main_v117 : Ref sig .tc := ⟨.hbm, 194, rfl⟩
abbrev main_c_37 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_cst_38 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_c_39 : Ref sig .tc := ⟨.hbm, 208, rfl⟩
abbrev main_call11_v0 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_cst_40 : Ref sig .tc := ⟨.hbm, 229, rfl⟩
abbrev main_v148 : Ref sig .tc := ⟨.hbm, 230, rfl⟩
abbrev main_v149 : Ref sig .tc := ⟨.hbm, 231, rfl⟩
abbrev main_cst_41 : Ref sig .tc := ⟨.hbm, 232, rfl⟩
abbrev main_v150 : Ref sig .tc := ⟨.hbm, 233, rfl⟩
abbrev main_v151 : Ref sig .tc := ⟨.hbm, 234, rfl⟩
abbrev main_cst_42 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_c_43 : Ref sig .tc := ⟨.hbm, 239, rfl⟩
abbrev main_c_44 : Ref sig .tc := ⟨.hbm, 240, rfl⟩
abbrev main_call12_v0 : Ref sig .tc := ⟨.hbm, 241, rfl⟩
abbrev main_call12_v1 : Ref sig .tc := ⟨.hbm, 242, rfl⟩
abbrev main_call12_v2 : Ref sig .tc := ⟨.hbm, 243, rfl⟩
abbrev main_call12_v3 : Ref sig .tc := ⟨.hbm, 244, rfl⟩
abbrev main_call12_v4 : Ref sig .tc := ⟨.hbm, 245, rfl⟩
abbrev main_v155 : Ref sig .tc := ⟨.hbm, 246, rfl⟩
abbrev main_cst_45 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_c_46 : Ref sig .tc := ⟨.hbm, 251, rfl⟩
abbrev main_v159 : Ref sig .tc := ⟨.hbm, 252, rfl⟩
abbrev main_v160 : Ref sig .tc := ⟨.hbm, 253, rfl⟩
abbrev main_c_47 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_c_48 : Ref sig .tc := ⟨.hbm, 258, rfl⟩
abbrev main_v164 : Ref sig .tc := ⟨.hbm, 259, rfl⟩
abbrev main_v165 : Ref sig .tc := ⟨.hbm, 260, rfl⟩
abbrev main_c_49 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_cst_50 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_cst_51 : Ref sig .tc := ⟨.hbm, 273, rfl⟩
abbrev main_v176 : Ref sig .tc := ⟨.hbm, 274, rfl⟩
abbrev main_cst_52 : Ref sig .tc := ⟨.hbm, 275, rfl⟩
abbrev main_v177 : Ref sig .tc := ⟨.hbm, 276, rfl⟩
abbrev main_v178 : Ref sig .tc := ⟨.hbm, 277, rfl⟩
abbrev main_v179 : Ref sig .tc := ⟨.hbm, 278, rfl⟩
abbrev main_v180 : Ref sig .tc := ⟨.hbm, 279, rfl⟩
abbrev main_v181 : Ref sig .tc := ⟨.hbm, 280, rfl⟩
abbrev main_cst_53 : Ref sig .tc := ⟨.hbm, 281, rfl⟩
abbrev main_cst_54 : Ref sig .tc := ⟨.hbm, 282, rfl⟩
abbrev main_call13_v0 : Ref sig .tc := ⟨.hbm, 283, rfl⟩
abbrev main_call13_v1 : Ref sig .tc := ⟨.hbm, 284, rfl⟩
abbrev main_v182 : Ref sig .tc := ⟨.hbm, 285, rfl⟩
abbrev main_v183 : Ref sig .tc := ⟨.hbm, 286, rfl⟩
abbrev main_cst_55 : Ref sig .tc := ⟨.hbm, 287, rfl⟩
abbrev main_v184 : Ref sig .tc := ⟨.hbm, 288, rfl⟩
abbrev main_v185 : Ref sig .tc := ⟨.hbm, 289, rfl⟩
abbrev main_cst_56 : Ref sig .tc := ⟨.hbm, 290, rfl⟩
abbrev main_v186 : Ref sig .tc := ⟨.hbm, 291, rfl⟩
abbrev main_v187 : Ref sig .tc := ⟨.hbm, 292, rfl⟩
abbrev main_cst_57 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_c_58 : Ref sig .tc := ⟨.hbm, 297, rfl⟩
abbrev main_c_59 : Ref sig .tc := ⟨.hbm, 298, rfl⟩
abbrev main_call14_v0 : Ref sig .tc := ⟨.hbm, 299, rfl⟩
abbrev main_call14_v1 : Ref sig .tc := ⟨.hbm, 300, rfl⟩
abbrev main_call14_v2 : Ref sig .tc := ⟨.hbm, 301, rfl⟩
abbrev main_call14_v3 : Ref sig .tc := ⟨.hbm, 302, rfl⟩
abbrev main_call14_v4 : Ref sig .tc := ⟨.hbm, 303, rfl⟩
abbrev main_v191 : Ref sig .tc := ⟨.hbm, 304, rfl⟩
abbrev main_cst_60 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_c_61 : Ref sig .tc := ⟨.hbm, 309, rfl⟩
abbrev main_v195 : Ref sig .tc := ⟨.hbm, 310, rfl⟩
abbrev main_v196 : Ref sig .tc := ⟨.hbm, 311, rfl⟩
abbrev main_c_62 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev main_c_63 : Ref sig .tc := ⟨.hbm, 316, rfl⟩
abbrev main_v200 : Ref sig .tc := ⟨.hbm, 317, rfl⟩
abbrev main_v201 : Ref sig .tc := ⟨.hbm, 318, rfl⟩
abbrev main_c_64 : Ref sig .tc := ⟨.hbm, 319, rfl⟩
abbrev main_v202 : Ref sig .tc := ⟨.hbm, 320, rfl⟩
abbrev main_v203 : Ref sig .tc := ⟨.hbm, 321, rfl⟩
abbrev main_v204 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_v208 : Ref sig .tc := ⟨.hbm, 326, rfl⟩
abbrev main_cst_65 : Ref sig .tc := ⟨.hbm, 327, rfl⟩
abbrev main_v209 : Ref sig .tc := ⟨.hbm, 328, rfl⟩
abbrev main_v210 : Ref sig .tc := ⟨.hbm, 329, rfl⟩
abbrev main_v211 : Ref sig .tc := ⟨.hbm, 330, rfl⟩
abbrev main_v212 : Ref sig .tc := ⟨.hbm, 331, rfl⟩
abbrev main_c_66 : Ref sig .tc := ⟨.hbm, 332, rfl⟩
abbrev main_call15_v0 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_cst_67 : Ref sig .tc := ⟨.hbm, 353, rfl⟩
abbrev main_v232 : Ref sig .tc := ⟨.hbm, 354, rfl⟩
abbrev main_v233 : Ref sig .tc := ⟨.hbm, 355, rfl⟩
abbrev main_cst_68 : Ref sig .tc := ⟨.hbm, 356, rfl⟩
abbrev main_v234 : Ref sig .tc := ⟨.hbm, 357, rfl⟩
abbrev main_v235 : Ref sig .tc := ⟨.hbm, 358, rfl⟩
abbrev main_cst_69 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_c_70 : Ref sig .tc := ⟨.hbm, 363, rfl⟩
abbrev main_c_71 : Ref sig .tc := ⟨.hbm, 364, rfl⟩
abbrev main_call16_v0 : Ref sig .tc := ⟨.hbm, 365, rfl⟩
abbrev main_call16_v1 : Ref sig .tc := ⟨.hbm, 366, rfl⟩
abbrev main_call16_v2 : Ref sig .tc := ⟨.hbm, 367, rfl⟩
abbrev main_call16_v3 : Ref sig .tc := ⟨.hbm, 368, rfl⟩
abbrev main_call16_v4 : Ref sig .tc := ⟨.hbm, 369, rfl⟩
abbrev main_v239 : Ref sig .tc := ⟨.hbm, 370, rfl⟩
abbrev main_cst_72 : Ref sig .tc := ⟨.hbm, 371, rfl⟩
abbrev main_v240 : Ref sig .tc := ⟨.hbm, 372, rfl⟩
abbrev main_v241 : Ref sig .tc := ⟨.hbm, 373, rfl⟩
abbrev main_v242 : Ref sig .tc := ⟨.hbm, 374, rfl⟩
abbrev main_c_73 : Ref sig .tc := ⟨.hbm, 375, rfl⟩
abbrev main_v243 : Ref sig .tc := ⟨.hbm, 376, rfl⟩
abbrev main_v244 : Ref sig .tc := ⟨.hbm, 377, rfl⟩
abbrev main_c_74 : Ref sig .tc := ⟨.hbm, 378, rfl⟩
abbrev main_v245 : Ref sig .tc := ⟨.hbm, 379, rfl⟩
abbrev main_v246 : Ref sig .tc := ⟨.hbm, 380, rfl⟩
abbrev main_v247 : Ref sig .tc := ⟨.hbm, 381, rfl⟩
abbrev main_c_75 : Ref sig .tc := ⟨.hbm, 382, rfl⟩
abbrev main_v248 : Ref sig .tc := ⟨.hbm, 383, rfl⟩
abbrev main_v249 : Ref sig .tc := ⟨.hbm, 384, rfl⟩
abbrev main_c_76 : Ref sig .tc := ⟨.hbm, 385, rfl⟩
abbrev main_v250 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_v256 : Ref sig .tc := ⟨.hbm, 392, rfl⟩
abbrev main_cst_77 : Ref sig .tc := ⟨.hbm, 393, rfl⟩
abbrev main_v257 : Ref sig .tc := ⟨.hbm, 394, rfl⟩
abbrev main_v258 : Ref sig .tc := ⟨.hbm, 395, rfl⟩
abbrev main_v259 : Ref sig .tc := ⟨.hbm, 396, rfl⟩
abbrev main_cst_78 : Ref sig .tc := ⟨.hbm, 397, rfl⟩
abbrev main_v260 : Ref sig .tc := ⟨.hbm, 398, rfl⟩
abbrev main_cst_79 : Ref sig .tc := ⟨.hbm, 399, rfl⟩
abbrev main_v261 : Ref sig .tc := ⟨.hbm, 400, rfl⟩
abbrev main_v262 : Ref sig .tc := ⟨.hbm, 401, rfl⟩
abbrev main_v263 : Ref sig .tc := ⟨.hbm, 402, rfl⟩
abbrev main_v264 : Ref sig .tc := ⟨.hbm, 403, rfl⟩
abbrev main_v265 : Ref sig .tc := ⟨.hbm, 404, rfl⟩
abbrev main_cst_80 : Ref sig .tc := ⟨.hbm, 405, rfl⟩
abbrev main_cst_81 : Ref sig .tc := ⟨.hbm, 406, rfl⟩
abbrev main_call17_v0 : Ref sig .tc := ⟨.hbm, 407, rfl⟩
abbrev main_call17_v1 : Ref sig .tc := ⟨.hbm, 408, rfl⟩
abbrev main_v266 : Ref sig .tc := ⟨.hbm, 409, rfl⟩
abbrev main_v267 : Ref sig .tc := ⟨.hbm, 410, rfl⟩
abbrev main_cst_82 : Ref sig .tc := ⟨.hbm, 411, rfl⟩
abbrev main_v268 : Ref sig .tc := ⟨.hbm, 412, rfl⟩
abbrev main_v269 : Ref sig .tc := ⟨.hbm, 413, rfl⟩
abbrev main_cst_83 : Ref sig .tc := ⟨.hbm, 414, rfl⟩
abbrev main_v270 : Ref sig .tc := ⟨.hbm, 415, rfl⟩
abbrev main_v271 : Ref sig .tc := ⟨.hbm, 416, rfl⟩
abbrev main_cst_84 : Ref sig .tc := ⟨.hbm, 417, rfl⟩
abbrev main_v272 : Ref sig .tc := ⟨.hbm, 418, rfl⟩
abbrev main_v273 : Ref sig .tc := ⟨.hbm, 419, rfl⟩
abbrev main_v274 : Ref sig .tc := ⟨.hbm, 420, rfl⟩
abbrev main_c_85 : Ref sig .tc := ⟨.hbm, 421, rfl⟩
abbrev main_c_86 : Ref sig .tc := ⟨.hbm, 422, rfl⟩
abbrev main_call18_v0 : Ref sig .tc := ⟨.hbm, 423, rfl⟩
abbrev main_call18_v1 : Ref sig .tc := ⟨.hbm, 424, rfl⟩
abbrev main_call18_v2 : Ref sig .tc := ⟨.hbm, 425, rfl⟩
abbrev main_call18_v3 : Ref sig .tc := ⟨.hbm, 426, rfl⟩
abbrev main_call18_v4 : Ref sig .tc := ⟨.hbm, 427, rfl⟩
abbrev main_v275 : Ref sig .tc := ⟨.hbm, 428, rfl⟩
abbrev main_cst_87 : Ref sig .tc := ⟨.hbm, 429, rfl⟩
abbrev main_v276 : Ref sig .tc := ⟨.hbm, 430, rfl⟩
abbrev main_v277 : Ref sig .tc := ⟨.hbm, 431, rfl⟩
abbrev main_v278 : Ref sig .tc := ⟨.hbm, 432, rfl⟩
abbrev main_c_88 : Ref sig .tc := ⟨.hbm, 433, rfl⟩
abbrev main_v279 : Ref sig .tc := ⟨.hbm, 434, rfl⟩
abbrev main_v280 : Ref sig .tc := ⟨.hbm, 435, rfl⟩
abbrev main_c_89 : Ref sig .tc := ⟨.hbm, 436, rfl⟩
abbrev main_v281 : Ref sig .tc := ⟨.hbm, 437, rfl⟩
abbrev main_v282 : Ref sig .tc := ⟨.hbm, 438, rfl⟩
abbrev main_v283 : Ref sig .tc := ⟨.hbm, 439, rfl⟩
abbrev main_c_90 : Ref sig .tc := ⟨.hbm, 440, rfl⟩
abbrev main_v284 : Ref sig .tc := ⟨.hbm, 441, rfl⟩
abbrev main_v285 : Ref sig .tc := ⟨.hbm, 442, rfl⟩
abbrev main_c_91 : Ref sig .tc := ⟨.hbm, 443, rfl⟩
abbrev main_v286 : Ref sig .tc := ⟨.hbm, 444, rfl⟩
abbrev main_v287 : Ref sig .tc := ⟨.hbm, 445, rfl⟩
abbrev main_v288 : Ref sig .tc := ⟨.hbm, 446, rfl⟩
abbrev main_v289 : Ref sig .tc := ⟨.hbm, 447, rfl⟩
abbrev main_v290 : Ref sig .tc := ⟨.hbm, 448, rfl⟩
abbrev main_v291 : Ref sig .tc := ⟨.hbm, 449, rfl⟩
abbrev main_v292 : Ref sig .tc := ⟨.hbm, 450, rfl⟩
abbrev main_cst_92 : Ref sig .tc := ⟨.hbm, 451, rfl⟩
abbrev main_v293 : Ref sig .tc := ⟨.hbm, 452, rfl⟩
abbrev main_v294 : Ref sig .tc := ⟨.hbm, 453, rfl⟩
abbrev main_v295 : Ref sig .tc := ⟨.hbm, 454, rfl⟩
abbrev main_v296 : Ref sig .tc := ⟨.hbm, 455, rfl⟩
abbrev main_cst_93 : Ref sig .tc := ⟨.hbm, 456, rfl⟩
abbrev main_v297 : Ref sig .tc := ⟨.hbm, 457, rfl⟩
abbrev main_v298 : Ref sig .tc := ⟨.hbm, 458, rfl⟩
abbrev main_cst_94 : Ref sig .tc := ⟨.hbm, 459, rfl⟩
abbrev main_v299 : Ref sig .tc := ⟨.hbm, 460, rfl⟩
abbrev main_v300 : Ref sig .tc := ⟨.hbm, 461, rfl⟩
abbrev main_v301 : Ref sig .tc := ⟨.hbm, 462, rfl⟩
abbrev main_v302 : Ref sig .tc := ⟨.hbm, 463, rfl⟩
abbrev main_v303 : Ref sig .tc := ⟨.hbm, 464, rfl⟩

abbrev nD : Nat := 1
abbrev τ : Topo := Topo.v7x

variable {F : FTy → Type} [FloatOps F]
-- ==== Proof.Count.lean ====
module

public import Mathlib.Data.Real.Basic
public import Mathlib.Algebra.BigOperators.Fin
public import Mathlib.Tactic.Linarith
public import Mathlib.Tactic.Ring
public import Mathlib.Tactic.FinCases
public import Mathlib.Algebra.BigOperators.Ring.Finset
public import Mathlib.Algebra.BigOperators.Group.Finset.Sigma

@[expose] public section

noncomputable section

namespace Cert.Lgop

open scoped BigOperators

/-- The row steps of the eight neighbours, the pixel itself at one. -/
def dy : Fin 8 → ℕ := ![0, 0, 0, 1, 1, 2, 2, 2]

/-- The column steps of the eight neighbours, the pixel itself at one. -/
def dx : Fin 8 → ℕ := ![0, 1, 2, 0, 2, 0, 1, 2]

/-- The row steps by the number of the neighbour, the pixel itself left out. -/
theorem dy_eq : ∀ k : Fin 8, dy k = (k.val + if 4 ≤ k.val then 1 else 0) / 3 := by decide

/-- The column steps by the number of the neighbour. -/
theorem dx_eq : ∀ k : Fin 8, dx k = (k.val + if 4 ≤ k.val then 1 else 0) % 3 := by decide

/-- A plane with a border of zeros, read at a place of the bordered plane. -/
def padAt (C : Fin 224 → Fin 224 → ℝ) (p q : ℕ) : ℝ :=
  if h : (1 ≤ p ∧ p - 1 < 224) ∧ (1 ≤ q ∧ q - 1 < 224) then C ⟨p - 1, h.1.2⟩ ⟨q - 1, h.2.2⟩ else 0

/-- How many of the three rows about a row lie in the plane, times the same of the columns, less the pixel itself:
    how many pixels a pixel is a neighbour of. -/
def weight (i j : Fin 224) : ℝ :=
  (3 - (if i.val = 0 then 1 else 0) - (if i.val = 223 then 1 else 0))
    * (3 - (if j.val = 0 then 1 else 0) - (if j.val = 223 then 1 else 0)) - 1

/-- How many neighbours of pixels reach one, counted by weight. -/
def nbrCount (C : Fin 224 → Fin 224 → ℝ) : ℝ := ∑ i, ∑ j, if 1 ≤ C i j then weight i j else 0

/-- How many pixels exceed the mean. -/
def meanCount (C : Fin 224 → Fin 224 → ℝ) : ℝ := ∑ i, ∑ j, if (∑ a, ∑ b, C a b) / 50176 < C i j then 1 else 0

/-- How many rows step onto row `p` by `d`. -/
def steps (d : ℕ) (p : Fin 224) : ℝ := ∑ i : Fin 224, if p.val + 1 = i.val + d then 1 else 0

/-- One row steps onto row `p` by `d`, when it is in the plane. -/
theorem steps_eq (d : ℕ) (p : Fin 224) : steps d p = if d ≤ p.val + 1 ∧ p.val + 1 - d < 224 then 1 else 0 := by
  unfold steps
  by_cases h : d ≤ p.val + 1 ∧ p.val + 1 - d < 224
  · rw [if_pos h, Finset.sum_eq_single (⟨p.val + 1 - d, h.2⟩ : Fin 224)]
    · rw [if_pos (by show p.val + 1 = p.val + 1 - d + d; omega)]
    · intro b _ hb
      rw [if_neg]
      intro e
      apply hb
      apply Fin.ext
      show b.val = p.val + 1 - d
      omega
    · intro hn; exact absurd (Finset.mem_univ _) hn
  · rw [if_neg h]
    refine Finset.sum_eq_zero fun i _ => if_neg ?_
    intro e
    have := i.isLt
    apply h
    constructor <;> omega

/-- The three steps of a row together. -/
theorem steps_three (p : Fin 224) :
    steps 0 p + steps 1 p + steps 2 p = 3 - (if p.val = 0 then 1 else 0) - (if p.val = 223 then 1 else 0) := by
  have hp := p.isLt
  have h1 : steps 1 p = 1 := by rw [steps_eq, if_pos (by constructor <;> omega)]
  have h0 : steps 0 p = 1 - (if p.val = 223 then 1 else 0) := by
    rw [steps_eq]
    by_cases h : p.val = 223
    · rw [if_pos h, if_neg (by omega)]; ring
    · rw [if_neg h, if_pos (by omega)]; ring
  have h2 : steps 2 p = 1 - (if p.val = 0 then 1 else 0) := by
    rw [steps_eq]
    by_cases h : p.val = 0
    · rw [if_pos h, if_neg (by omega)]; ring
    · rw [if_neg h, if_pos (by omega)]; ring
  rw [h0, h1, h2]; ring

/-- The middle step stays on every row. -/
theorem steps_one (p : Fin 224) : steps 1 p = 1 := by
  have hp := p.isLt
  rw [steps_eq, if_pos (by constructor <;> omega)]

/-- The eight steps onto a pixel are its weight. -/
theorem steps_weight (p q : Fin 224) : ∑ k : Fin 8, steps (dy k) p * steps (dx k) q = weight p q := by
  have hw : weight p q = (steps 0 p + steps 1 p + steps 2 p) * (steps 0 q + steps 1 q + steps 2 q) - steps 1 p * steps 1 q := by
    rw [steps_three, steps_three, steps_one, steps_one, weight]; ring
  rw [hw, Fin.sum_univ_eight]
  show steps 0 p * steps 0 q + steps 0 p * steps 1 q + steps 0 p * steps 2 q + steps 1 p * steps 0 q
    + steps 1 p * steps 2 q + steps 2 p * steps 0 q + steps 2 p * steps 1 q + steps 2 p * steps 2 q = _
  ring

/-- A place of the bordered plane reaches one exactly when it is a pixel that does. -/
theorem pad_hit (C : Fin 224 → Fin 224 → ℝ) (p q : ℕ) :
    (if 1 ≤ padAt C p q then (1 : ℝ) else 0)
      = ∑ a : Fin 224, ∑ b : Fin 224,
          (if a.val + 1 = p then 1 else 0) * (if b.val + 1 = q then 1 else 0) * (if 1 ≤ C a b then 1 else 0) := by
  unfold padAt
  by_cases h : (1 ≤ p ∧ p - 1 < 224) ∧ (1 ≤ q ∧ q - 1 < 224)
  · rw [dif_pos h, Finset.sum_eq_single (⟨p - 1, h.1.2⟩ : Fin 224), Finset.sum_eq_single (⟨q - 1, h.2.2⟩ : Fin 224)]
    · rw [if_pos (show p - 1 + 1 = p by omega), if_pos (show q - 1 + 1 = q by omega), one_mul, one_mul]
    · intro b _ hb
      rw [if_neg (show ¬ b.val + 1 = q from fun e => hb (Fin.ext (show b.val = q - 1 by omega)))]
      ring
    · intro hn; exact absurd (Finset.mem_univ _) hn
    · intro a _ ha
      refine Finset.sum_eq_zero fun b _ => ?_
      rw [if_neg (show ¬ a.val + 1 = p from fun e => ha (Fin.ext (show a.val = p - 1 by omega)))]
      ring
    · intro hn; exact absurd (Finset.mem_univ _) hn
  · rw [dif_neg h, if_neg (by norm_num)]
    symm
    refine Finset.sum_eq_zero fun a _ => Finset.sum_eq_zero fun b _ => ?_
    have ha := a.isLt
    have hb := b.isLt
    by_cases e1 : a.val + 1 = p
    · by_cases e2 : b.val + 1 = q
      · exfalso; apply h; omega
      · rw [if_neg e2]; ring
    · rw [if_neg e1]; ring

/-- Over all pixels and their eight neighbours, how often a neighbour reaches one is the weighted count. -/
theorem nbr_sum (C : Fin 224 → Fin 224 → ℝ) :
    ∑ i : Fin 224, ∑ j : Fin 224, ∑ k : Fin 8, (if 1 ≤ padAt C (i.val + dy k) (j.val + dx k) then (1 : ℝ) else 0) = nbrCount C := by
  have e : ∀ k : Fin 8, ∑ i : Fin 224, ∑ j : Fin 224, (if 1 ≤ padAt C (i.val + dy k) (j.val + dx k) then (1 : ℝ) else 0)
      = ∑ a : Fin 224, ∑ b : Fin 224, steps (dy k) a * steps (dx k) b * (if 1 ≤ C a b then 1 else 0) := fun k => by
    simp only [pad_hit]
    rw [Finset.sum_congr rfl fun i _ => Finset.sum_comm, Finset.sum_comm]
    refine Finset.sum_congr rfl fun a _ => ?_
    rw [Finset.sum_congr rfl fun i _ => Finset.sum_comm, Finset.sum_comm]
    refine Finset.sum_congr rfl fun b _ => ?_
    unfold steps
    rw [Finset.sum_mul_sum, Finset.sum_mul]
    refine Finset.sum_congr rfl fun i _ => ?_
    rw [Finset.sum_mul]
  have s : ∑ i : Fin 224, ∑ j : Fin 224, ∑ k : Fin 8, (if 1 ≤ padAt C (i.val + dy k) (j.val + dx k) then (1 : ℝ) else 0)
      = ∑ k : Fin 8, ∑ i : Fin 224, ∑ j : Fin 224, (if 1 ≤ padAt C (i.val + dy k) (j.val + dx k) then (1 : ℝ) else 0) := by
    rw [Finset.sum_congr rfl fun i _ => Finset.sum_comm, Finset.sum_comm]
  rw [s, Finset.sum_congr rfl fun k _ => e k, Finset.sum_comm]
  unfold nbrCount
  refine Finset.sum_congr rfl fun a _ => ?_
  rw [Finset.sum_comm]
  refine Finset.sum_congr rfl fun b _ => ?_
  rw [← Finset.sum_mul, steps_weight]
  split <;> ring

/-- How often it does not. -/
theorem nbr_sum_not (C : Fin 224 → Fin 224 → ℝ) :
    ∑ i : Fin 224, ∑ j : Fin 224, ∑ k : Fin 8, (if 1 ≤ padAt C (i.val + dy k) (j.val + dx k) then (0 : ℝ) else 1)
      = 401408 - nbrCount C := by
  rw [← nbr_sum, eq_sub_iff_add_eq]
  simp only [← Finset.sum_add_distrib]
  rw [Finset.sum_congr rfl fun i _ => Finset.sum_congr rfl fun j _ => Finset.sum_congr rfl fun k _ =>
    (show _ = (1 : ℝ) by split <;> ring)]
  simp
  norm_num

/-- How many pixels do not exceed the mean. -/
theorem mean_sum_not (C : Fin 224 → Fin 224 → ℝ) :
    ∑ i : Fin 224, ∑ j : Fin 224, (if (∑ a, ∑ b, C a b) / 50176 < C i j then (0 : ℝ) else 1) = 50176 - meanCount C := by
  rw [meanCount, eq_sub_iff_add_eq]
  simp only [← Finset.sum_add_distrib]
  rw [Finset.sum_congr rfl fun i _ => Finset.sum_congr rfl fun j _ => (show _ = (1 : ℝ) by split <;> ring)]
  simp
  norm_num

end Cert.Lgop
-- ==== Proof.Pixel.lean ====
module

public import Idealize.ShloMosaic.Lib.Pointwise

@[expose] public section

set_option maxRecDepth 16384

noncomputable section

namespace Cert.Lgop

open Idealize.ShloMosaic

/-- The largest of a pixel's three channels: its value. -/
def value (r g b : EReal) : EReal := max (max r g) b

/-- The largest channel less the smallest one. -/
def delta (r g b : EReal) : EReal := value r g b - min (min r g) b

/-- A divisor with zero replaced by one. -/
def safe (x : EReal) : EReal := if x = 0 then 1 else x

/-- The saturation of a pixel. -/
def sat (r g b : EReal) : EReal := if 0 < value r g b then Ideal.div (delta r g b) (safe (value r g b)) else 0

/-- The hue of a pixel, the red sextant wrapped by one comparison. -/
def hue (r g b : EReal) : EReal :=
  if delta r g b = 0 then 0 else
    Ideal.div
      (if value r g b = r then
        (if Ideal.div (g - b) (safe (delta r g b)) < 0 then
          Ideal.div (g - b) (safe (delta r g b)) + Ideal.ofBits .f32 0x40C00000#32
         else Ideal.div (g - b) (safe (delta r g b)))
       else if value r g b = g then
        Ideal.div (b - r) (safe (delta r g b)) + Ideal.ofBits .f32 0x40000000#32
       else Ideal.div (r - g) (safe (delta r g b)) + Ideal.ofBits .f32 0x40800000#32)
      (Ideal.ofBits .f32 0x40C00000#32)

/-- The word of six. -/
theorem lit_six : Ideal.ofBits .f32 0x40C00000#32 = ((6 : ℝ) : EReal) := by
  simp [Ideal.ofBits, Ideal.ieee]
  rw [← EReal.coe_mul]; norm_num

/-- The word of two. -/
theorem lit_two : Ideal.ofBits .f32 0x40000000#32 = ((2 : ℝ) : EReal) := by
  simp [Ideal.ofBits, Ideal.ieee]
  rw [← EReal.coe_mul]; norm_num

/-- The word of three. -/
theorem lit_three : Ideal.ofBits .f32 0x40400000#32 = ((3 : ℝ) : EReal) := by
  simp [Ideal.ofBits, Ideal.ieee]
  rw [← EReal.coe_mul]; norm_num

/-- The word of four. -/
theorem lit_four : Ideal.ofBits .f32 0x40800000#32 = ((4 : ℝ) : EReal) := by
  simp [Ideal.ofBits, Ideal.ieee]
  rw [← EReal.coe_mul]; norm_num

/-- The word of 401408, eight times the pixels of an image. -/
theorem lit_nbr : Ideal.ofBits .f32 0x48C40000#32 = ((401408 : ℝ) : EReal) := by
  simp [Ideal.ofBits, Ideal.ieee]
  rw [← EReal.coe_mul]; norm_num

/-- The word of 50176, the pixels of an image. -/
theorem lit_pix : Ideal.ofBits .f32 0x47440000#32 = ((50176 : ℝ) : EReal) := by
  simp [Ideal.ofBits, Ideal.ieee]
  rw [← EReal.coe_mul]; norm_num

/-- The word of 255. -/
theorem lit_255 : Ideal.ofBits .f32 0x437F0000#32 = ((255 : ℝ) : EReal) := by
  simp [Ideal.ofBits, Ideal.ieee]
  rw [← EReal.coe_mul]; norm_num

/-- The word of 127. -/
theorem lit_127 : Ideal.ofBits .f32 0x42FE0000#32 = ((127 : ℝ) : EReal) := by
  simp [Ideal.ofBits, Ideal.ieee]
  rw [← EReal.coe_mul]; norm_num

/-- The word just above one. -/
theorem lit_one_up : Ideal.ofBits .f32 0x3F800001#32 = ((8388609 / 8388608 : ℝ) : EReal) := by
  simp [Ideal.ofBits, Ideal.ieee]
  rw [← EReal.coe_mul]; norm_num

/-- The word of minus infinity. -/
theorem lit_neg_inf : Ideal.ofBits .f32 0xFF800000#32 = ⊥ := by
  simp [Ideal.ofBits, Ideal.ieee]

/-- The word of infinity. -/
theorem lit_inf : Ideal.ofBits .f32 0x7F800000#32 = ⊤ := by
  simp [Ideal.ofBits, Ideal.ieee]

/-- The quotient of two reals, the divisor not zero. -/
theorem div_real (x y : ℝ) (h : y ≠ 0) : Ideal.div (x : EReal) (y : EReal) = ((x / y : ℝ) : EReal) := by
  rw [Ideal.div_coe h, ← EReal.coe_mul, mul_one_div]

/-- The largest of two reals. -/
theorem max_real (x y : ℝ) : max (x : EReal) (y : EReal) = ((max x y : ℝ) : EReal) :=
  (EReal.coe_strictMono.monotone.map_max).symm

/-- The smallest of two reals. -/
theorem min_real (x y : ℝ) : min (x : EReal) (y : EReal) = ((min x y : ℝ) : EReal) :=
  (EReal.coe_strictMono.monotone.map_min).symm

/-- The value of a real pixel. -/
theorem value_real (r g b : ℝ) : value r g b = ((max (max r g) b : ℝ) : EReal) := by
  rw [value, max_real, max_real]

/-- The spread of a real pixel. -/
theorem delta_real (r g b : ℝ) : delta r g b = ((max (max r g) b - min (min r g) b : ℝ) : EReal) := by
  rw [delta, value_real, min_real, min_real, ← EReal.coe_sub]

/-- The safe divisor of a real. -/
theorem safe_real (x : ℝ) : safe x = ((if x = 0 then 1 else x : ℝ) : EReal) := by
  unfold safe
  by_cases h : x = 0
  · simp [h]
  · rw [if_neg h, if_neg (by exact_mod_cast h)]

/-- The safe divisor of a real that is not zero. -/
theorem safe_ne (x : ℝ) (h : x ≠ 0) : safe x = (x : EReal) := by rw [safe_real, if_neg h]

/-- The red sextant of a real pixel is a real between minus one and one. -/
theorem sextant_real (r g b : ℝ) :
    ∃ d : ℝ, Ideal.div ((g : EReal) - (b : EReal)) (safe (delta r g b)) = d ∧ -1 ≤ d ∧ d ≤ 1 := by
  rw [delta_real, safe_real]
  have hs : (if max (max r g) b - min (min r g) b = 0 then (1 : ℝ) else max (max r g) b - min (min r g) b) ≠ 0 := by
    split
    · exact one_ne_zero
    · assumption
  rw [← EReal.coe_sub, div_real _ _ hs]
  refine ⟨_, rfl, ?_⟩
  have h1 : g ≤ max (max r g) b := le_max_of_le_left (le_max_right _ _)
  have h2 : b ≤ max (max r g) b := le_max_right _ _
  have h3 : min (min r g) b ≤ g := min_le_of_left_le (min_le_right _ _)
  have h4 : min (min r g) b ≤ b := min_le_right _ _
  generalize max (max r g) b = M at *
  generalize min (min r g) b = m at *
  split
  · constructor <;> linarith
  · have hp : 0 < M - m := lt_of_le_of_ne (by linarith) (Ne.symm ‹_›)
    rw [le_div_iff₀ hp, div_le_iff₀ hp]
    constructor <;> linarith

/-- The value of a pixel of the unit cube is in the unit interval. -/
theorem value_unit (r g b : ℝ) (hr : 0 ≤ r ∧ r ≤ 1) (hg : 0 ≤ g ∧ g ≤ 1) (hb : 0 ≤ b ∧ b ≤ 1) :
    ∃ y : ℝ, value r g b = y ∧ 0 ≤ y ∧ y ≤ 1 :=
  ⟨_, value_real r g b, le_max_of_le_right hb.1, max_le (max_le hr.2 hg.2) hb.2⟩

/-- The saturation of a pixel of the unit cube is in the unit interval. -/
theorem sat_unit (r g b : ℝ) (hr : 0 ≤ r ∧ r ≤ 1) (hg : 0 ≤ g ∧ g ≤ 1) (hb : 0 ≤ b ∧ b ≤ 1) :
    ∃ y : ℝ, sat r g b = y ∧ 0 ≤ y ∧ y ≤ 1 := by
  unfold sat
  rw [value_real, delta_real]
  have h0 : 0 ≤ min (min r g) b := le_min (le_min hr.1 hg.1) hb.1
  have h1 : min (min r g) b ≤ max (max r g) b := (min_le_right _ _).trans (le_max_right _ _)
  generalize max (max r g) b = M at *
  generalize min (min r g) b = m at *
  by_cases h : 0 < M
  · rw [if_pos (by exact_mod_cast h), safe_ne _ h.ne', div_real _ _ h.ne']
    refine ⟨_, rfl, div_nonneg (by linarith) h.le, ?_⟩
    rw [div_le_one h]; linarith
  · rw [if_neg (by exact_mod_cast h)]
    exact ⟨0, rfl, le_rfl, zero_le_one⟩

/-- The hue of a real pixel is in the unit interval. -/
theorem hue_unit (r g b : ℝ) : ∃ y : ℝ, hue r g b = y ∧ 0 ≤ y ∧ y ≤ 1 := by
  obtain ⟨d, hd, hd0, hd1⟩ := sextant_real r g b
  unfold hue
  rw [hd, lit_six, lit_two, lit_four]
  by_cases h : delta r g b = 0
  · rw [if_pos h]
    exact ⟨0, rfl, le_rfl, zero_le_one⟩
  rw [if_neg h]
  rw [delta_real] at h ⊢
  have h' : max (max r g) b - min (min r g) b ≠ 0 := by exact_mod_cast h
  rw [safe_ne _ h', ← EReal.coe_sub, ← EReal.coe_sub, div_real _ _ h', div_real _ _ h', value_real]
  have a1 : g ≤ max (max r g) b := le_max_of_le_left (le_max_right _ _)
  have a2 : b ≤ max (max r g) b := le_max_right _ _
  have a3 : r ≤ max (max r g) b := le_max_of_le_left (le_max_left _ _)
  have b1 : min (min r g) b ≤ g := min_le_of_left_le (min_le_right _ _)
  have b2 : min (min r g) b ≤ b := min_le_right _ _
  have b3 : min (min r g) b ≤ r := min_le_of_left_le (min_le_left _ _)
  generalize max (max r g) b = M at *
  generalize min (min r g) b = m at *
  have hp : 0 < M - m := lt_of_le_of_ne (by linarith) (Ne.symm h')
  have e1 : -1 ≤ (b - r) / (M - m) ∧ (b - r) / (M - m) ≤ 1 := by
    rw [le_div_iff₀ hp, div_le_iff₀ hp]; constructor <;> linarith
  have e2 : -1 ≤ (r - g) / (M - m) ∧ (r - g) / (M - m) ≤ 1 := by
    rw [le_div_iff₀ hp, div_le_iff₀ hp]; constructor <;> linarith
  have key : ∀ z : ℝ, 0 ≤ z → z ≤ 6 → ∃ y : ℝ, Ideal.div (z : EReal) ((6 : ℝ) : EReal) = y ∧ 0 ≤ y ∧ y ≤ 1 := fun z h0 h6 => by
    rw [div_real _ _ (by norm_num)]
    exact ⟨_, rfl, by positivity, by rw [div_le_one (by norm_num)]; exact h6⟩
  by_cases c1 : ((M : ℝ) : EReal) = (r : EReal)
  · rw [if_pos c1]
    by_cases c2 : ((d : ℝ) : EReal) < 0
    · rw [if_pos c2, ← EReal.coe_add]
      have : d < 0 := by exact_mod_cast c2
      exact key _ (by linarith) (by linarith)
    · rw [if_neg c2]
      have : ¬ d < 0 := by exact_mod_cast c2
      exact key _ (by linarith) (by linarith)
  · rw [if_neg c1]
    by_cases c2 : ((M : ℝ) : EReal) = (g : EReal)
    · rw [if_pos c2, ← EReal.coe_add]
      exact key _ (by linarith) (by linarith)
    · rw [if_neg c2, ← EReal.coe_add]
      exact key _ (by linarith) (by linarith)

/-- The integer part of a small quotient is zero. -/
theorem truncInt_small (d : ℝ) (h0 : -1 ≤ d) (h1 : d ≤ 1) : Ideal.truncInt (d / 6) = 0 := by
  unfold Ideal.truncInt
  split
  · rw [Int.floor_eq_zero_iff]
    exact ⟨by assumption, by linarith⟩
  · rw [Int.ceil_eq_zero_iff]
    exact ⟨by linarith, by linarith⟩

/-- Between minus one and one, the truncated remainder by six, moved to the sign of six, adds six to what is negative:
    the remainder of the hue's red sextant is one comparison. -/
theorem wrap_eq (d : ℝ) (h0 : -1 ≤ d) (h1 : d ≤ 1) :
    Scalar.select
      (IntOp.andi
        (IntOp.cmpi CmpIPredicate.ne
          (BitVec.ofBool (decide (Ideal.remf (d : EReal) (Ideal.ofBits .f32 0x40C00000#32) < 0)))
          (BitVec.ofBool (decide (Ideal.ofBits .f32 0x40C00000#32 < 0))))
        (BitVec.ofBool (decide (Ideal.remf (d : EReal) (Ideal.ofBits .f32 0x40C00000#32) ≠ 0))))
      (Ideal.remf (d : EReal) (Ideal.ofBits .f32 0x40C00000#32) + Ideal.ofBits .f32 0x40C00000#32)
      (Ideal.remf (d : EReal) (Ideal.ofBits .f32 0x40C00000#32))
      = if (d : EReal) < 0 then (d : EReal) + Ideal.ofBits .f32 0x40C00000#32 else (d : EReal) := by
  have e : Ideal.remf (d : EReal) (Ideal.ofBits .f32 0x40C00000#32) = (d : EReal) := by
    rw [lit_six, Ideal.remf_coe, if_neg (by norm_num), truncInt_small d h0 h1]
    simp
  rw [e]
  have h6 : ¬ (Ideal.ofBits .f32 0x40C00000#32 < 0) := by
    rw [lit_six]
    intro h
    have : (6 : ℝ) < 0 := by exact_mod_cast h
    linarith
  by_cases c : (d : EReal) < 0
  · rw [if_pos c, decide_eq_true c, decide_eq_false h6, decide_eq_true c.ne]
    rfl
  · rw [if_neg c, decide_eq_false c, decide_eq_false h6]
    by_cases z : (d : EReal) ≠ 0
    · rw [decide_eq_true z]; rfl
    · rw [decide_eq_false z]; rfl

end Cert.Lgop
-- ==== Proof.Bins.lean ====
module

public import proofs.«01_k».proof.Proof.Pixel

@[expose] public section

noncomputable section

namespace Cert.Lgop

open Idealize.ShloMosaic Idealize.ShloMosaic.TcCoe Idealize.SL.Sem Idealize.ShloMosaic.StableHlo

/-- A sum of real numbers is the same sum among the extended ones. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The neighbour's bin of a pixel in the unit range: one where it reaches one, else zero. -/
theorem nbr_bin (y : ℝ) (h0 : 0 ≤ y) (h1 : y ≤ 1) :
    IntOp.minsi 255#32 (IntOp.maxsi 0#32 (Ideal.fptosi 32
        (Ideal.div (y : EReal) (Ideal.ofBits .f32 0x437F0000#32) * Ideal.ofBits .f32 0x437F0000#32)))
      = if 1 ≤ y then 1#32 else 0#32 := by
  rw [lit_255, Ideal.div_coe (by norm_num), ← EReal.coe_mul, ← EReal.coe_mul,
    show y * (1 / 255) * 255 = y by ring]
  unfold Ideal.fptosi
  rw [Ideal.toIntClamped_coe, if_pos h0]
  by_cases h : 1 ≤ y
  · have e : y = 1 := le_antisymm h1 h
    subst e
    rw [if_pos h]
    simp
    decide
  · have e : ⌊y⌋ = 0 := by rw [Int.floor_eq_zero_iff]; exact ⟨h0, lt_of_not_ge h⟩
    rw [if_neg h, e]
    decide

/-- The comparison's bin: the last whole number under 127 parts of one, over a bit more than one, where the pixel exceeds the mean. -/
theorem mean_bin (p : Prop) [Decidable p] :
    IntOp.minsi 127#32 (IntOp.maxsi 0#32 (Ideal.fptosi 32
        (Ideal.div (if p then 1 else 0 : EReal) (Ideal.ofBits .f32 0x3F800001#32) * Ideal.ofBits .f32 0x42FE0000#32)))
      = if p then 126#32 else 0#32 := by
  rw [lit_127, lit_one_up, Ideal.div_coe (by norm_num)]
  by_cases h : p
  · rw [if_pos h, if_pos h, one_mul, ← EReal.coe_mul]
    unfold Ideal.fptosi
    rw [Ideal.toIntClamped_coe, if_pos (by norm_num)]
    have e : ⌊(1 / (8388609 / 8388608) * 127 : ℝ)⌋ = 126 := by
      rw [Int.floor_eq_iff]; constructor <;> norm_num
    rw [e]
    decide
  · rw [if_neg h, if_neg h, zero_mul, zero_mul, ← EReal.coe_zero]
    unfold Ideal.fptosi
    rw [Ideal.toIntClamped_coe, if_pos le_rfl, Int.floor_zero]
    decide

end Cert.Lgop
-- ==== Proof.Feature.lean ====
module

public import proofs.«01_k».proof.Proof.Count
public import proofs.«01_k».proof.Proof.Bins

@[expose] public section

noncomputable section

namespace Cert.Lgop

open Idealize.ShloMosaic Idealize.ShloMosaic.TcCoe Idealize.SL.Sem Idealize.ShloMosaic.StableHlo

/-- The six histograms of an image's hue, saturation and value planes, side by side: three times a histogram of 256 bins over
    neighbours and one of 128 over the comparison with the mean. -/
def counts (h s v : Fin 224 → Fin 224 → ℝ) (n : ℕ) : ℝ :=
  if n = 1150 then meanCount v
  else if n = 1024 then 50176 - meanCount v
  else if n = 769 then nbrCount v
  else if n = 768 then 401408 - nbrCount v
  else if n = 766 then meanCount s
  else if n = 640 then 50176 - meanCount s
  else if n = 385 then nbrCount s
  else if n = 384 then 401408 - nbrCount s
  else if n = 382 then meanCount h
  else if n = 256 then 50176 - meanCount h
  else if n = 1 then nbrCount h
  else if n = 0 then 401408 - nbrCount h
  else 0

/-- The sum of the squares of a plane's two histograms. -/
def planeSq (c : Fin 224 → Fin 224 → ℝ) : ℝ :=
  (401408 - nbrCount c) * (401408 - nbrCount c) + nbrCount c * nbrCount c
    + ((50176 - meanCount c) * (50176 - meanCount c) + meanCount c * meanCount c)

/-- The sum of the squares of the six histograms. -/
def countsSq (h s v : Fin 224 → Fin 224 → ℝ) : ℝ := planeSq h + planeSq s + planeSq v

/-- The feature of an image at a place: the count there, over the length of the whole row. -/
def feature (h s v : Fin 224 → Fin 224 → ℝ) (n : ℕ) : EReal :=
  ((counts h s v n : ℝ) : EReal) * Ideal.rsqrt (max ((countsSq h s v : ℝ) : EReal) (Ideal.ofBits .f32 0x2B8CBCCC#32))

/-- Colours in the unit range. -/
def InUnit (x : Fin 224 → Fin 224 → Fin 3 → ℝ) : Prop := ∀ i j c, 0 ≤ x i j c ∧ x i j c ≤ 1

/-- The hue plane of an image. -/
def planeH (x : Fin 224 → Fin 224 → Fin 3 → ℝ) (i j : Fin 224) : ℝ := (hue (x i j 0) (x i j 1) (x i j 2)).toReal

/-- The saturation plane of an image. -/
def planeS (x : Fin 224 → Fin 224 → Fin 3 → ℝ) (i j : Fin 224) : ℝ := (sat (x i j 0) (x i j 1) (x i j 2)).toReal

/-- The value plane of an image. -/
def planeV (x : Fin 224 → Fin 224 → Fin 3 → ℝ) (i j : Fin 224) : ℝ := (value (x i j 0) (x i j 1) (x i j 2)).toReal

/-- An extended real that is a real number of the unit range is its real part, which is in the unit range. -/
theorem toReal_unit (e : EReal) (h : ∃ y : ℝ, e = y ∧ 0 ≤ y ∧ y ≤ 1) : e = ((e.toReal : ℝ) : EReal) ∧ 0 ≤ e.toReal ∧ e.toReal ≤ 1 := by
  obtain ⟨y, rfl, h0, h1⟩ := h
  rw [EReal.toReal_coe]
  exact ⟨rfl, h0, h1⟩

/-- The hue plane is real and in the unit range. -/
theorem planeH_real (x : Fin 224 → Fin 224 → Fin 3 → ℝ) (i j : Fin 224) :
    hue (x i j 0) (x i j 1) (x i j 2) = ((planeH x i j : ℝ) : EReal) ∧ 0 ≤ planeH x i j ∧ planeH x i j ≤ 1 :=
  toReal_unit _ (hue_unit _ _ _)

/-- The saturation plane of colours in the unit range is real and in the unit range. -/
theorem planeS_real (x : Fin 224 → Fin 224 → Fin 3 → ℝ) (hx : InUnit x) (i j : Fin 224) :
    sat (x i j 0) (x i j 1) (x i j 2) = ((planeS x i j : ℝ) : EReal) ∧ 0 ≤ planeS x i j ∧ planeS x i j ≤ 1 :=
  toReal_unit _ (sat_unit _ _ _ (hx i j 0) (hx i j 1) (hx i j 2))

/-- The value plane of colours in the unit range is real and in the unit range. -/
theorem planeV_real (x : Fin 224 → Fin 224 → Fin 3 → ℝ) (hx : InUnit x) (i j : Fin 224) :
    value (x i j 0) (x i j 1) (x i j 2) = ((planeV x i j : ℝ) : EReal) ∧ 0 ≤ planeV x i j ∧ planeV x i j ≤ 1 :=
  toReal_unit _ (value_unit _ _ _ (hx i j 0) (hx i j 1) (hx i j 2))

/-- The feature of an image of real colours at a place. -/
def imageFeature (x : Fin 224 → Fin 224 → Fin 3 → ℝ) (n : ℕ) : EReal := feature (planeH x) (planeS x) (planeV x) n

/-- A row with one place set to a number. -/
def setAt (k : ℕ) (a : ℝ) (g : ℕ → ℝ) (n : ℕ) : ℝ := if n = k then a else g n

/-- A sum of squares with one place set apart. -/
theorem sum_apart (g : ℕ → ℝ) (k : ℕ) (hk : k < 1152) (a : ℝ) (h : g k = 0) :
    ∑ n : Fin 1152, setAt k a g n.val * setAt k a g n.val = a * a + ∑ n : Fin 1152, g n.val * g n.val := by
  have e : ∀ n : Fin 1152, setAt k a g n.val * setAt k a g n.val = (if n = ⟨k, hk⟩ then a * a else 0) + g n.val * g n.val := fun n => by
    unfold setAt
    by_cases p : n.val = k
    · rw [if_pos p, if_pos (Fin.ext p), p, h]; ring
    · rw [if_neg p, if_neg (fun q => p (congrArg Fin.val q))]; ring
  rw [Finset.sum_congr rfl fun n _ => e n, Finset.sum_add_distrib, Finset.sum_ite_eq' Finset.univ, if_pos (Finset.mem_univ _)]

/-- The sum of the squares of a row of counts. -/
theorem counts_sum (h s v : Fin 224 → Fin 224 → ℝ) : ∑ n : Fin 1152, counts h s v n.val * counts h s v n.val = countsSq h s v := by
  have e : counts h s v = (setAt 1150 (meanCount v) <|
      setAt 1024 (50176 - meanCount v) <|
      setAt 769 (nbrCount v) <|
      setAt 768 (401408 - nbrCount v) <|
      setAt 766 (meanCount s) <|
      setAt 640 (50176 - meanCount s) <|
      setAt 385 (nbrCount s) <|
      setAt 384 (401408 - nbrCount s) <|
      setAt 382 (meanCount h) <|
      setAt 256 (50176 - meanCount h) <|
      setAt 1 (nbrCount h) <|
      setAt 0 (401408 - nbrCount h) fun _ => 0) := rfl
  rw [e]
  iterate 12 rw [sum_apart _ _ (by norm_num) _ (by simp [setAt])]
  unfold countsSq planeSq
  simp only [mul_zero, Finset.sum_const_zero]
  ring

end Cert.Lgop
-- ==== Proof.Unit.lean ====
module

public import proofs.«01_k».proof.Proof.Gen.Pre_unit_range
public import proofs.«01_k».proof.Proof.Feature
public import Idealize.ShloMosaic.Lib.ReduceAll
public import Idealize.ShloMosaic.Lib.Affine

@[expose] public section

set_option maxRecDepth 16384

noncomputable section

namespace Cert.Lgop

open Idealize.ShloMosaic Idealize.ShloMosaic.TcCoe Idealize.SL.Sem Idealize.ShloMosaic.StableHlo
open Cert.Pre_unit_range

/-- An array that meets the precondition has all its entries between zero and one. -/
theorem unit_entry (X : FVec Ideal S32x224x224x3 .f32) (h : Cert.Pre_unit_range.fn (F := Ideal) X = fun _ => 1#1) (i : S32x224x224x3.Idx) :
    0 ≤ X i ∧ X i ≤ 1 := by
  have e := congrFun h ix0
  dsimp only [Cert.Pre_unit_range.fn] at e
  have a := Host.reduce_andi_all _ _ _ _ ix0 e i
  obtain ⟨a0, a1⟩ := IntOp.andi_eq_one.mp a
  have z : Ideal.ofBits .f32 0x00000000#32 = 0 := by simp [Ideal.ofBits, Ideal.ieee]
  have o : Ideal.ofBits .f32 0x3F800000#32 = 1 := by
    simp [Ideal.ofBits, Ideal.ieee]
    rw [← EReal.coe_mul, ← EReal.coe_one]
    exact congrArg _ (by norm_num)
  have b0 : BitVec.ofBool (decide (Ideal.ofBits .f32 0x00000000#32 ≤ X i)) = 1#1 := a0
  have b1 : BitVec.ofBool (decide (X i ≤ Ideal.ofBits .f32 0x3F800000#32)) = 1#1 := a1
  rw [z, show ∀ p : Bool, BitVec.ofBool p = 1#1 ↔ p = true by decide, decide_eq_true_iff] at b0
  rw [o, show ∀ p : Bool, BitVec.ofBool p = 1#1 ↔ p = true by decide, decide_eq_true_iff] at b1
  exact ⟨b0, b1⟩

/-- The real colours of an array that meets the precondition. -/
def realColours (X : FVec Ideal S32x224x224x3 .f32) (t : Fin 32) (i j : Fin 224) (k : Fin 3) : ℝ := (X (ix4 t i j k)).toReal

/-- An array that meets the precondition is made of real numbers. -/
theorem real_entry (X : FVec Ideal S32x224x224x3 .f32) (h : Cert.Pre_unit_range.fn (F := Ideal) X = fun _ => 1#1)
    (t : Fin 32) (i j : Fin 224) (k : Fin 3) : X (ix4 t i j k) = ((realColours X t i j k : ℝ) : EReal) := by
  obtain ⟨a0, a1⟩ := unit_entry X h (ix4 t i j k)
  refine (EReal.coe_toReal (fun e => ?_) fun e => ?_).symm
  · rw [e] at a1
    exact absurd a1 (by rw [← EReal.coe_one]; exact not_le.mpr (EReal.coe_lt_top 1))
  · rw [e] at a0
    exact absurd a0 (by rw [← EReal.coe_zero]; exact not_le.mpr (EReal.bot_lt_coe 0))

/-- The real colours of an array that meets the precondition are in the unit range. -/
theorem colours_unit (X : FVec Ideal S32x224x224x3 .f32) (h : Cert.Pre_unit_range.fn (F := Ideal) X = fun _ => 1#1) (t : Fin 32) :
    InUnit (realColours X t) := fun i j k => by
  have a := unit_entry X h (ix4 t i j k)
  rw [real_entry X h t i j k, ← EReal.coe_zero, ← EReal.coe_one, EReal.coe_le_coe_iff, EReal.coe_le_coe_iff] at a
  exact a

end Cert.Lgop
-- ==== Proof.KernelBlock.lean ====
module

public import proofs.«01_k».proof.Proof.Gen.KernelIdeal.Skeleton
public import proofs.«01_k».proof.Proof.Pixel
public import proofs.«01_k».proof.Proof.Feature

@[expose] public section

set_option maxRecDepth 16384

noncomputable section

namespace Cert.Lgop

open Idealize.ShloMosaic Idealize.ShloMosaic.TcCoe Idealize.SL.Sem Idealize.ShloMosaic.StableHlo
open Cert.KernelIdeal Cert.KernelIdeal.Gen

/-- A comparison of two words for equality, as a number. -/
theorem eq_number {a b : ℕ} (ha : a < 2 ^ 32) (hb : b < 2 ^ 32) :
    FloatOps.sitofp (F := Ideal) .f32 (BitVec.setWidth 32 (IntOp.cmpi .eq (BitVec.ofNat 32 a) (BitVec.ofNat 32 b)))
      = (((if a = b then 1 else 0 : ℝ)) : EReal) := by
  by_cases h : a = b
  · subst h
    rw [if_pos rfl]
    show (((BitVec.setWidth 32 (BitVec.ofBool (decide (BitVec.ofNat 32 a = BitVec.ofNat 32 a)))).toInt : ℝ) : EReal) = _
    simp
  · rw [if_neg h]
    have : ¬ BitVec.ofNat 32 a = BitVec.ofNat 32 b := fun e => h (by
      have := congrArg BitVec.toNat e
      rwa [BitVec.toNat_ofNat, BitVec.toNat_ofNat, Nat.mod_eq_of_lt ha, Nat.mod_eq_of_lt hb] at this)
    show (((BitVec.setWidth 32 (BitVec.ofBool (decide (BitVec.ofNat 32 a = BitVec.ofNat 32 b)))).toInt : ℝ) : EReal) = _
    simp [this]

/-- The row the selection matrix marks in a column. -/
theorem mark_word : ∀ q : Fin 672, IntOp.addi
      (IntOp.muli (Scalar.select (IntOp.cmpi .slt (BitVec.ofNat 32 q.val) 224#32) (BitVec.ofNat 32 q.val)
        (Scalar.select (IntOp.cmpi .slt (BitVec.ofNat 32 q.val) 448#32) (IntOp.subi (BitVec.ofNat 32 q.val) 224#32)
          (IntOp.subi (BitVec.ofNat 32 q.val) 448#32))) 3#32)
      (Scalar.select (IntOp.cmpi .slt (BitVec.ofNat 32 q.val) 224#32) (0#32)
        (Scalar.select (IntOp.cmpi .slt (BitVec.ofNat 32 q.val) 448#32) 1#32 2#32))
    = BitVec.ofNat 32 (q.val % 224 * 3 + q.val / 224) := by
  decide +kernel

/-- The selection matrix: column `q` holds a one in the row of its pixel and channel. -/
theorem select_apply (p q : Fin 672) :
    k0_pay2 (F := Ideal) (ix2 p q) = ((if p.val = q.val % 224 * 3 + q.val / 224 then 1 else 0 : ℝ) : EReal) := by
  pointwise [k0_pay2]
  rw [mark_word, eq_number (by have := p.isLt; omega) (by have := q.isLt; omega)]

/-- A channel of a pixel in a row of interleaved channels. -/
def chan (j : Fin 224) (c : Fin 3) : Fin 672 := ⟨j.val * 3 + c.val, by have := j.isLt; have := c.isLt; omega⟩

/-- The product with the selection matrix is the channel it selects. -/
theorem split_apply (x : Vec Ideal S1x224x672 .f32) (X : Fin 224 → Fin 672 → ℝ) (hx : ∀ i p, x (ix3 0 i p) = ((X i p : ℝ) : EReal))
    (i : Fin 224) (j : Fin 224) (c : Fin 3) (h : c.val * 224 + j.val < 672) :
    k0_pay3 (F := Ideal) x (k0_pay2 (F := Ideal)) (ix2 i ⟨c.val * 224 + j.val, h⟩) = ((X i (chan j c) : ℝ) : EReal) := by
  have e : ∀ p : Fin 672, k0_pay2 (F := Ideal) (ix2 p ⟨c.val * 224 + j.val, h⟩) = ((if p = chan j c then 1 else 0 : ℝ) : EReal) := fun p => by
    rw [select_apply]
    have hj := j.isLt
    congr 1
    refine if_congr ?_ rfl rfl
    rw [Fin.ext_iff]
    show p.val = (c.val * 224 + j.val) % 224 * 3 + (c.val * 224 + j.val) / 224 ↔ p.val = j.val * 3 + c.val
    rw [show (c.val * 224 + j.val) % 224 = j.val by omega, show (c.val * 224 + j.val) / 224 = c.val by omega]
  generalize k0_pay2 (F := Ideal) = w at e
  pointwise [k0_pay3]
  simp only [hx, e, ← EReal.coe_sub, sub_self, ← EReal.coe_mul, coe_sum, ← EReal.coe_add]
  simp

/-- The first channel of the split block. -/
theorem red_apply (x : Vec Ideal S1x224x672 .f32) (X : Fin 224 → Fin 672 → ℝ) (hx : ∀ i p, x (ix3 0 i p) = ((X i p : ℝ) : EReal))
    (i j : Fin 224) : k0_pay4 (F := Ideal) x (k0_pay2 (F := Ideal)) (ix2 i j) = ((X i (chan j 0) : ℝ) : EReal) := by
  have e := split_apply x X hx i j 0 (by have := j.isLt; show 0 * 224 + j.val < 672; omega)
  rw [← e]
  generalize k0_pay2 (F := Ideal) = w
  pointwise [k0_pay4]

/-- The second channel of the split block. -/
theorem green_apply (x : Vec Ideal S1x224x672 .f32) (X : Fin 224 → Fin 672 → ℝ) (hx : ∀ i p, x (ix3 0 i p) = ((X i p : ℝ) : EReal))
    (i j : Fin 224) : k0_pay5 (F := Ideal) x (k0_pay2 (F := Ideal)) (ix2 i j) = ((X i (chan j 1) : ℝ) : EReal) := by
  have e := split_apply x X hx i j 1 (by have := j.isLt; show 1 * 224 + j.val < 672; omega)
  rw [← e]
  generalize k0_pay2 (F := Ideal) = w
  pointwise [k0_pay5]

/-- The third channel of the split block. -/
theorem blue_apply (x : Vec Ideal S1x224x672 .f32) (X : Fin 224 → Fin 672 → ℝ) (hx : ∀ i p, x (ix3 0 i p) = ((X i p : ℝ) : EReal))
    (i j : Fin 224) : k0_pay6 (F := Ideal) x (k0_pay2 (F := Ideal)) (ix2 i j) = ((X i (chan j 2) : ℝ) : EReal) := by
  have e := split_apply x X hx i j 2 (by have := j.isLt; show 2 * 224 + j.val < 672; omega)
  rw [← e]
  generalize k0_pay2 (F := Ideal) = w
  pointwise [k0_pay6]

/-- The kernel's value plane at a pixel. -/
theorem kernelV_apply (x : Vec Ideal S1x224x672 .f32) (w : Vec Ideal S672x672 .bf16) (i j : Fin 224) :
    k0_pay7 (F := Ideal) x w (ix2 i j) = value (k0_pay4 (F := Ideal) x w (ix2 i j)) (k0_pay5 (F := Ideal) x w (ix2 i j)) (k0_pay6 (F := Ideal) x w (ix2 i j)) := by
  pointwise [k0_pay7]
  rfl

/-- The kernel's saturation plane at a pixel. -/
theorem kernelS_apply (x : Vec Ideal S1x224x672 .f32) (w : Vec Ideal S672x672 .bf16) (i j : Fin 224) :
    k0_pay10 (F := Ideal) x w (ix2 i j) = sat (k0_pay4 (F := Ideal) x w (ix2 i j)) (k0_pay5 (F := Ideal) x w (ix2 i j)) (k0_pay6 (F := Ideal) x w (ix2 i j)) := by
  pointwise [k0_pay10, k0_pay8, k0_pay7]
  rfl

/-- The kernel's hue plane. -/
def kernelHue (x : Vec Ideal S1x224x672 .f32) (w : Vec Ideal S672x672 .bf16) : FVec Ideal S224x224 .f32 :=
  k0_pay12 (F := Ideal) (k0_pay4 (F := Ideal) x w) (k0_pay5 (F := Ideal) x w) (k0_pay6 (F := Ideal) x w) (k0_pay7 (F := Ideal) x w)
    (k0_pay8 (F := Ideal) x w) (k0_pay9 (F := Ideal) x w) (k0_pay11 (F := Ideal) x w)

/-- The kernel's hue plane at a pixel. -/
theorem kernelH_apply (x : Vec Ideal S1x224x672 .f32) (w : Vec Ideal S672x672 .bf16) (i j : Fin 224) :
    kernelHue x w (ix2 i j) = hue (k0_pay4 (F := Ideal) x w (ix2 i j)) (k0_pay5 (F := Ideal) x w (ix2 i j)) (k0_pay6 (F := Ideal) x w (ix2 i j)) := by
  pointwise [kernelHue, k0_pay12, k0_pay11, k0_pay9, k0_pay8, k0_pay7]
  rfl

end Cert.Lgop
-- ==== Proof.KernelCounts.lean ====
module

public import proofs.«01_k».proof.Proof.KernelBlock

@[expose] public section

set_option maxRecDepth 16384

noncomputable section

namespace Cert.Lgop

open Idealize.ShloMosaic Idealize.ShloMosaic.TcCoe Idealize.SL.Sem Idealize.ShloMosaic.StableHlo
open Cert.KernelIdeal Cert.KernelIdeal.Gen

/-- The named constant is the inverse of the number of pixels. -/
theorem inv_pix : Named.named (F := Ideal) Cert.KernelIdeal.κ "inv_npix" (φ := .f32) 0x37A72F05#32 = (((50176 : ℝ)⁻¹ : ℝ) : EReal) := rfl

/-- The kernel's weights are how many pixels a pixel is a neighbour of. -/
theorem weight_apply (i j : Fin 224) : k0_pay13 (F := Ideal) (ix2 i j) = ((weight i j : ℝ) : EReal) := by
  have hi := i.isLt
  have hj := j.isLt
  pointwise [k0_pay13]
  rw [lit_three, eq_number (b := 0) (by omega) (by omega), eq_number (b := 223) (by omega) (by omega),
    eq_number (b := 0) (by omega) (by omega), eq_number (b := 223) (by omega) (by omega), ← EReal.coe_one]
  simp only [← EReal.coe_sub, ← EReal.coe_mul]
  rfl

/-- A weighted count of the places of a plane that reach one. -/
theorem nbr_real (c : FVec Ideal S224x224 .f32) (C : Fin 224 → Fin 224 → ℝ) (hc : ∀ i j, c (ix2 i j) = ((C i j : ℝ) : EReal)) :
    (∑ i : Fin 224, ∑ j : Fin 224, if 1 ≤ c (ix2 i j) then k0_pay13 (F := Ideal) (ix2 i j) else 0) = ((nbrCount C : ℝ) : EReal) := by
  unfold nbrCount
  rw [← coe_sum]
  refine Finset.sum_congr rfl fun i _ => ?_
  rw [← coe_sum]
  refine Finset.sum_congr rfl fun j _ => ?_
  rw [hc, weight_apply, ← EReal.coe_one]
  simp only [EReal.coe_le_coe_iff]
  split <;> rfl

/-- A count of the places of a plane that exceed its mean. -/
theorem mean_real (c : FVec Ideal S224x224 .f32) (C : Fin 224 → Fin 224 → ℝ) (hc : ∀ i j, c (ix2 i j) = ((C i j : ℝ) : EReal)) :
    k0_pay18 (F := Ideal) c = ((meanCount C : ℝ) : EReal) := by
  pointwise [k0_pay18]
  rw [inv_pix]
  simp only [hc, coe_sum, ← EReal.coe_mul, EReal.coe_lt_coe_iff]
  unfold meanCount
  rw [← coe_sum]
  refine Finset.sum_congr rfl fun i _ => ?_
  rw [← coe_sum]
  refine Finset.sum_congr rfl fun j _ => ?_
  rw [div_eq_mul_inv]
  split
  · rename_i h
    show (((BitVec.setWidth 32 (BitVec.ofBool (decide _))).toInt : ℝ) : EReal) = _
    simp [h]
  · rename_i h
    show (((BitVec.setWidth 32 (BitVec.ofBool (decide _))).toInt : ℝ) : EReal) = _
    simp [h]

/-- The hue plane's weighted count. -/
theorem nbrH (x : Vec Ideal S1x224x672 .f32) (w : Vec Ideal S672x672 .bf16) (C : Fin 224 → Fin 224 → ℝ)
    (hc : ∀ i j, kernelHue x w (ix2 i j) = ((C i j : ℝ) : EReal)) :
    k0_pay15 (F := Ideal) (k0_pay13 (F := Ideal)) (k0_pay14 (F := Ideal) (k0_pay4 (F := Ideal) x w) (k0_pay5 (F := Ideal) x w) (k0_pay6 (F := Ideal) x w) (k0_pay7 (F := Ideal) x w)
    (k0_pay8 (F := Ideal) x w) (k0_pay9 (F := Ideal) x w) (k0_pay11 (F := Ideal) x w)) = ((nbrCount C : ℝ) : EReal) := by
  rw [← nbr_real _ C hc]
  unfold k0_pay14
  change k0_pay15 (F := Ideal) (k0_pay13 (F := Ideal)) (cmpf .oge (kernelHue x w) _) = _
  generalize kernelHue x w = c
  generalize k0_pay13 (F := Ideal) = u
  pointwise [k0_pay15]

/-- The saturation plane's weighted count. -/
theorem nbrS (c : FVec Ideal S224x224 .f32) (C : Fin 224 → Fin 224 → ℝ) (hc : ∀ i j, c (ix2 i j) = ((C i j : ℝ) : EReal)) :
    k0_pay17 (F := Ideal) c (k0_pay13 (F := Ideal)) = ((nbrCount C : ℝ) : EReal) := by
  rw [← nbr_real _ C hc]
  generalize k0_pay13 (F := Ideal) = u
  pointwise [k0_pay17]

/-- The value plane's weighted count. -/
theorem nbrV (c : FVec Ideal S224x224 .f32) (C : Fin 224 → Fin 224 → ℝ) (hc : ∀ i j, c (ix2 i j) = ((C i j : ℝ) : EReal)) :
    k0_pay20 (F := Ideal) (k0_pay19 (F := Ideal) c (k0_pay13 (F := Ideal))) = ((nbrCount C : ℝ) : EReal) := by
  rw [← nbr_real _ C hc]
  generalize k0_pay13 (F := Ideal) = u
  pointwise [k0_pay20, k0_pay19]

/-- The hue plane's count above the mean is the saturation plane's operation. -/
theorem meanH (c : FVec Ideal S224x224 .f32) : k0_pay16 (F := Ideal) c = k0_pay18 (F := Ideal) c := rfl

/-- The value plane's count above the mean is the saturation plane's operation. -/
theorem meanV (c : FVec Ideal S224x224 .f32) : k0_pay21 (F := Ideal) c = k0_pay18 (F := Ideal) c := rfl

/-- The place of a lane in the row of features. -/
theorem lane_eq (r : Fin 9) (l : Fin 128) (k : ℕ) (hk : k < 2 ^ 32) (a b : EReal) :
    Scalar.select (IntOp.cmpi .eq (IntOp.addi (IntOp.muli (BitVec.ofNat 32 r.val) 128#32) (BitVec.ofNat 32 l.val)) (BitVec.ofNat 32 k)) a b
      = if r.val * 128 + l.val = k then a else b := by
  have hr := r.isLt
  have hl := l.isLt
  have e : IntOp.addi (IntOp.muli (BitVec.ofNat 32 r.val) 128#32) (BitVec.ofNat 32 l.val) = BitVec.ofNat 32 (r.val * 128 + l.val) := by
    show BitVec.ofNat 32 r.val * 128#32 + BitVec.ofNat 32 l.val = _
    apply BitVec.eq_of_toNat_eq
    simp only [BitVec.toNat_add, BitVec.toNat_mul, BitVec.toNat_ofNat]
    omega
  rw [e]
  show (if BitVec.ofBool (decide (BitVec.ofNat 32 (r.val * 128 + l.val) = BitVec.ofNat 32 k)) = 1#1 then a else b) = _
  have h : BitVec.ofNat 32 (r.val * 128 + l.val) = BitVec.ofNat 32 k ↔ r.val * 128 + l.val = k := by
    constructor
    · intro h
      have h := congrArg BitVec.toNat h
      rwa [BitVec.toNat_ofNat, BitVec.toNat_ofNat, Nat.mod_eq_of_lt (by omega), Nat.mod_eq_of_lt hk] at h
    · intro h; rw [h]
  by_cases p : r.val * 128 + l.val = k
  · simp [p]
  · have q : ¬ BitVec.ofNat 32 (r.val * 128 + l.val) = BitVec.ofNat 32 k := fun e => p (h.mp e)
    rw [if_neg p]
    simp only [q, decide_false]
    rfl

/-- The scalar inverse square root at the ideal floats. -/
theorem scalar_rsqrt (y : EReal) : Scalar.rsqrt (F := Ideal) (φ := .f32) y = Ideal.rsqrt y := rfl

/-- The row of features the kernel stores, from the six counts. -/
theorem stored_apply (h s v : Fin 224 → Fin 224 → ℝ) (r : Fin 9) (l : Fin 128) (m133 : FVec Ideal S1 .f32)
    (hm : k0_pay20 (F := Ideal) m133 = ((nbrCount v : ℝ) : EReal)) :
    k0_pay1 (F := Ideal) ((meanCount s : ℝ) : EReal) ((nbrCount v : ℝ) : EReal) ((meanCount v : ℝ) : EReal)
      (k0_pay23 (F := Ideal) ((meanCount v : ℝ) : EReal)
        (k0_pay22 (F := Ideal) ((nbrCount h : ℝ) : EReal) ((meanCount h : ℝ) : EReal) ((nbrCount s : ℝ) : EReal) ((meanCount s : ℝ) : EReal) m133)
        (Scalar.ofBits (F := Ideal) .f32 0x47440000#32))
      k0_pay24 (k0_pay25 (F := Ideal) ((nbrCount h : ℝ) : EReal) ((meanCount h : ℝ) : EReal) ((nbrCount s : ℝ) : EReal)) k0_pay26
      (k0_pay27 (F := Ideal) ((meanCount s : ℝ) : EReal)) (ix3 0 r l)
      = feature h s v (r.val * 128 + l.val) := by
  generalize hnh : nbrCount h = nh
  generalize hmh : meanCount h = mh
  generalize hns : nbrCount s = ns
  generalize hms : meanCount s = ms
  generalize hnv : nbrCount v = nv at hm ⊢
  generalize hmv : meanCount v = mv
  pointwise [k0_pay1, k0_pay25, k0_pay24, k0_pay26, k0_pay27]
  rw [lane_eq r l 1150 (by omega), lane_eq r l 1024 (by omega), lane_eq r l 769 (by omega), lane_eq r l 768 (by omega),
    lane_eq r l 766 (by omega), lane_eq r l 640 (by omega), lane_eq r l 385 (by omega), lane_eq r l 384 (by omega),
    lane_eq r l 382 (by omega), lane_eq r l 256 (by omega), lane_eq r l 1 (by omega), lane_eq r l 0 (by omega)]
  have e : k0_pay23 (F := Ideal) (mv : EReal)
        (k0_pay22 (F := Ideal) (nh : EReal) (mh : EReal) (ns : EReal) (ms : EReal) m133) (Ideal.ofBits .f32 0x47440000#32)
      = Ideal.rsqrt (max ((countsSq h s v : ℝ) : EReal) (Ideal.ofBits .f32 0x2B8CBCCC#32)) := by
    pointwise [k0_pay23, k0_pay22]
    rw [hm, lit_pix, lit_nbr]
    simp only [← EReal.coe_sub, ← EReal.coe_mul, ← EReal.coe_add]
    rw [scalar_rsqrt]
    refine congrArg (fun y : ℝ => Ideal.rsqrt (max (y : EReal) (Ideal.ofBits .f32 0x2B8CBCCC#32))) ?_
    unfold countsSq planeSq
    rw [hnh, hmh, hns, hms, hnv, hmv]
    ring
  unfold feature
  rw [e, lit_pix, lit_nbr]
  congr 1
  unfold counts
  rw [hnh, hmh, hns, hms, hnv, hmv]
  generalize r.val * 128 + l.val = n
  simp only [← EReal.coe_sub]
  rw [← EReal.coe_zero]
  simp only [apply_ite (fun y : ℝ => (y : EReal))]

end Cert.Lgop
-- ==== Proof.KernelImage.lean ====
module

public import proofs.«01_k».proof.Proof.KernelCounts

@[expose] public section

set_option maxRecDepth 16384

noncomputable section

namespace Cert.Lgop

open Idealize.ShloMosaic Idealize.ShloMosaic.TcCoe Idealize.SL.Sem Idealize.ShloMosaic.StableHlo
open Cert.KernelIdeal Cert.KernelIdeal.Gen

/-- The kernel's weighted count of the hue plane. -/
def countH (x : Vec Ideal S1x224x672 .f32) (w : Vec Ideal S672x672 .bf16) : EReal :=
  k0_pay15 (F := Ideal) (k0_pay13 (F := Ideal)) (k0_pay14 (F := Ideal) (k0_pay4 (F := Ideal) x w) (k0_pay5 (F := Ideal) x w)
    (k0_pay6 (F := Ideal) x w) (k0_pay7 (F := Ideal) x w) (k0_pay8 (F := Ideal) x w) (k0_pay9 (F := Ideal) x w) (k0_pay11 (F := Ideal) x w))

/-- The kernel's count of the hue plane above its mean. -/
def aboveH (x : Vec Ideal S1x224x672 .f32) (w : Vec Ideal S672x672 .bf16) : EReal := k0_pay16 (F := Ideal) (kernelHue x w)

/-- The kernel's weighted count of the saturation plane. -/
def countS (x : Vec Ideal S1x224x672 .f32) (w : Vec Ideal S672x672 .bf16) : EReal :=
  k0_pay17 (F := Ideal) (k0_pay10 (F := Ideal) x w) (k0_pay13 (F := Ideal))

/-- The kernel's count of the saturation plane above its mean. -/
def aboveS (x : Vec Ideal S1x224x672 .f32) (w : Vec Ideal S672x672 .bf16) : EReal := k0_pay18 (F := Ideal) (k0_pay10 (F := Ideal) x w)

/-- The kernel's count of the value plane above its mean. -/
def aboveV (x : Vec Ideal S1x224x672 .f32) (w : Vec Ideal S672x672 .bf16) : EReal := k0_pay21 (F := Ideal) (k0_pay7 (F := Ideal) x w)

/-- The kernel's weighted sum over the value plane, before its last step. -/
def partV (x : Vec Ideal S1x224x672 .f32) (w : Vec Ideal S672x672 .bf16) : FVec Ideal S1 .f32 :=
  k0_pay19 (F := Ideal) (k0_pay7 (F := Ideal) x w) (k0_pay13 (F := Ideal))

/-- What the kernel stores at a grid point, from the image's block and the selection matrix. -/
def blockRow (x : Vec Ideal S1x224x672 .f32) (w : Vec Ideal S672x672 .bf16) : Vec Ideal S1x9x128 .f32 :=
  k0_pay1 (F := Ideal) (aboveS x w) (k0_pay20 (F := Ideal) (partV x w)) (aboveV x w)
    (k0_pay23 (F := Ideal) (aboveV x w) (k0_pay22 (F := Ideal) (countH x w) (aboveH x w) (countS x w) (aboveS x w) (partV x w))
      (Scalar.ofBits (F := Ideal) .f32 0x47440000#32))
    k0_pay24 (k0_pay25 (F := Ideal) (countH x w) (aboveH x w) (countS x w)) k0_pay26 (k0_pay27 (F := Ideal) (aboveS x w))

/-- The colours of a block of interleaved channels. -/
def colours (X : Fin 224 → Fin 672 → ℝ) (i j : Fin 224) (c : Fin 3) : ℝ := X i (chan j c)

/-- A block of real colours in the unit range is turned into its image's features. -/
theorem blockRow_apply (x : Vec Ideal S1x224x672 .f32) (X : Fin 224 → Fin 672 → ℝ) (hx : ∀ i p, x (ix3 0 i p) = ((X i p : ℝ) : EReal))
    (hu : InUnit (colours X)) (r : Fin 9) (l : Fin 128) :
    blockRow x (k0_pay2 (F := Ideal)) (ix3 0 r l) = imageFeature (colours X) (r.val * 128 + l.val) := by
  have hH : ∀ i j, kernelHue x (k0_pay2 (F := Ideal)) (ix2 i j) = ((planeH (colours X) i j : ℝ) : EReal) := fun i j => by
    rw [kernelH_apply, red_apply x X hx, green_apply x X hx, blue_apply x X hx]
    exact (planeH_real (colours X) i j).1
  have hS : ∀ i j, k0_pay10 (F := Ideal) x (k0_pay2 (F := Ideal)) (ix2 i j) = ((planeS (colours X) i j : ℝ) : EReal) := fun i j => by
    rw [kernelS_apply, red_apply x X hx, green_apply x X hx, blue_apply x X hx]
    exact (planeS_real (colours X) hu i j).1
  have hV : ∀ i j, k0_pay7 (F := Ideal) x (k0_pay2 (F := Ideal)) (ix2 i j) = ((planeV (colours X) i j : ℝ) : EReal) := fun i j => by
    rw [kernelV_apply, red_apply x X hx, green_apply x X hx, blue_apply x X hx]
    exact (planeV_real (colours X) hu i j).1
  unfold imageFeature
  generalize k0_pay2 (F := Ideal) = w at hH hS hV ⊢
  have eH : countH x w = ((nbrCount (planeH (colours X)) : ℝ) : EReal) := nbrH x w _ hH
  have eS : countS x w = ((nbrCount (planeS (colours X)) : ℝ) : EReal) := nbrS _ _ hS
  have eV : k0_pay20 (F := Ideal) (partV x w) = ((nbrCount (planeV (colours X)) : ℝ) : EReal) := nbrV _ _ hV
  have mH : aboveH x w = ((meanCount (planeH (colours X)) : ℝ) : EReal) := (meanH _).trans (mean_real _ _ hH)
  have mS : aboveS x w = ((meanCount (planeS (colours X)) : ℝ) : EReal) := mean_real _ _ hS
  have mV : aboveV x w = ((meanCount (planeV (colours X)) : ℝ) : EReal) := (meanV _).trans (mean_real _ _ hV)
  unfold blockRow
  rw [mS, mV, eH, mH, eS, eV]
  exact stored_apply _ _ _ r l _ eV

end Cert.Lgop
-- ==== Proof.KernelArray.lean ====
module

public import proofs.«01_k».proof.Proof.Gen.KernelIdeal.Frame
public import proofs.«01_k».proof.Proof.KernelImage
public import Idealize.ShloMosaic.Lib.Pipeline.ValueKit
public import Idealize.ShloMosaic.Lib.Pipeline.ReadBack
public import Idealize.ShloMosaic.Lib.Claim

@[expose] public section

set_option maxRecDepth 16384

noncomputable section

namespace Cert.Lgop

open Idealize.ShloMosaic Idealize.ShloMosaic.TcCoe Idealize.SL.Sem Idealize.ShloMosaic.StableHlo
open Cert.KernelIdeal Cert.KernelIdeal.Gen

/-- The region finds the images with rows of interleaved channels. -/
theorem entry_rows (m : (ℓ : Loc nD τ sig) → Buf (Elt Ideal) ℓ) (c : Dev nD) :
    (V (F := Ideal) m c main_v0 : FVec Ideal S32x224x672 .f32)
      = shapeCast S32x224x672 (m ((c : Thread nD τ).loc main_arg0) : FVec Ideal S32x224x224x3 .f32) shapeCasts_S32x224x224x3_S32x224x672 := rfl

/-- Grid point `t` takes image `t` and writes row `t`. -/
theorem idx : ∀ t : Fin cfg0.N, win0_0.index t = ![t.val, 0, 0] ∧ win0_1.index t = ![t.val, 0, 0] :=
  (by decide +kernel : ∀ t : Fin grid0.N, _)

/-- An entry of the rows of interleaved channels. -/
theorem rows_apply (x : FVec Ideal S32x224x224x3 .f32) (t : Fin 32) (i : Fin 224) (p : Fin 672) :
    shapeCast S32x224x672 x shapeCasts_S32x224x224x3_S32x224x672 (ix3 t i p)
      = x (ix4 t i ⟨p.val / 3, by have := p.isLt; omega⟩ ⟨p.val % 3, by omega⟩) := by
  pointwise

/-- The block of grid point `t` is image `t`. -/
theorem block_apply (m : (ℓ : Loc nD τ sig) → Buf (Elt Ideal) ℓ) (c : Dev nD) (t : Fin cfg0.N) (ht : t.val < 32) (i : Fin 224) (p : Fin 672) :
    iblk (F := Ideal) m c 0 t (ix3 0 i p)
      = (m ((c : Thread nD τ).loc main_arg0) : FVec Ideal S32x224x224x3 .f32)
          (ix4 ⟨t.val, ht⟩ i ⟨p.val / 3, by have := p.isLt; omega⟩ ⟨p.val % 3, by omega⟩) := by
  refine Eq.trans ?_ (rows_apply (m ((c : Thread nD τ).loc main_arg0)) ⟨t.val, ht⟩ i p)
  rw [← entry_rows]
  blk_ext [iblk, idx t]

/-- The scratch buffer holds the selection matrix after every grid point. -/
theorem scratch_eq (m : (ℓ : Loc nD τ sig) → Buf (Elt Ideal) ℓ) (c : Dev nD) :
    ∀ n (h : n < cfg0.N), (outsAt0 (F := Ideal) m c n h).2 = k0_pay2 (F := Ideal) := by
  intro n
  induction n with
  | zero =>
    intro h
    rw [outsAt0_A m c ⟨0, h⟩ rfl]
    frame_out
  | succ n ih =>
    intro h
    have hN : n + 1 < 32 := lt_of_lt_of_eq h N_0
    rw [outsAt0_B m c ⟨n + 1, h⟩ (by show ¬ (n + 1) % 32 = 0; omega)]
    exact ih (by omega)

/-- What grid point `t` stores: its image's features. -/
theorem out_eq (m : (ℓ : Loc nD τ sig) → Buf (Elt Ideal) ℓ) (c : Dev nD) (t : Fin cfg0.N) :
    (outsAt0 (F := Ideal) m c t.val t.isLt).1 = blockRow (iblk m c 0 t) (k0_pay2 (F := Ideal)) := by
  by_cases h : t.val % 32 = 0
  · rw [outsAt0_A m c t h]
    frame_out
    rfl
  · rw [outsAt0_B m c t h]
    frame_out
    rw [Idealize.ShloMosaic.read_unread_whole, scratch_eq]
    rfl

/-- What the region leaves in its result array: row by row the images' features. -/
def rowsOf (x : Fin 32 → Fin 224 → Fin 224 → Fin 3 → ℝ) (y : S32x9x128.Idx) : EReal :=
  imageFeature (x (y 0)) ((y 1).val * 128 + (y 2).val)

/-- The region's result array, for real colours in the unit range. -/
theorem array_eq (m : (ℓ : Loc nD τ sig) → Buf (Elt Ideal) ℓ) (c : Dev nD) (x : Fin 32 → Fin 224 → Fin 224 → Fin 3 → ℝ)
    (hx : ∀ t i j k, (m ((c : Thread nD τ).loc main_arg0) : FVec Ideal S32x224x224x3 .f32) (ix4 t i j k) = ((x t i j k : ℝ) : EReal))
    (hu : ∀ t, InUnit (x t)) : (dats (F := Ideal) m 0 c).arrAt 1 cfg0.N = rowsOf x := by
  refine (dats (F := Ideal) m 0 c).arrAt_eq_of_covers 1 _ (by decide +kernel) fun t hf y => ?_
  have ht : t.val < 32 := lt_of_lt_of_eq t.isLt N_0
  blk_simp
  rw [after0_1, out_eq]
  idx_vars y
  have e : (((View.whole main_v1).slice (win0_1.rect t)).emb (ix3 y0 y1 y2) : S32x9x128.Idx) = ix3 ⟨t.val, ht⟩ y1 y2 := by
    blk_ext [idx t]
  rw [e]
  have h0 : y0 = 0 := Subsingleton.elim _ _
  subst h0
  have b := blockRow_apply (iblk m c 0 t) (fun i p => x ⟨t.val, ht⟩ i ⟨p.val / 3, by have := p.isLt; omega⟩ ⟨p.val % 3, by omega⟩)
    (fun i p => by rw [block_apply m c t ht, hx])
  have q : colours (fun i p => x ⟨t.val, ht⟩ i ⟨p.val / 3, by have := p.isLt; omega⟩ ⟨p.val % 3, by omega⟩) = x ⟨t.val, ht⟩ := by
    funext i j k
    have hk := k.isLt
    show x ⟨t.val, ht⟩ i ⟨(j.val * 3 + k.val) / 3, _⟩ ⟨(j.val * 3 + k.val) % 3, _⟩ = _
    have a1 : (j.val * 3 + k.val) / 3 = j.val := by omega
    have a2 : (j.val * 3 + k.val) % 3 = k.val := by omega
    exact congrArg₂ (x ⟨t.val, ht⟩ i) (Fin.ext a1) (Fin.ext a2)
  rw [q] at b
  exact b (hu _) y1 y2

/-- The program's result is the region's array with its rows laid out. -/
theorem tail_eq (m : (ℓ : Loc nD τ sig) → Buf (Elt Ideal) ℓ) (c : Dev nD) :
    (Pipeline.afterTail₀ cfgs (dats (F := Ideal) m) 0 (V0 m) [hostOps1] c main_v2 : FVec Ideal S32x1152 .f32)
      = shapeCast S32x1152 ((dats (F := Ideal) m 0 c).arrAt 1 cfg0.N : FVec Ideal S32x9x128 .f32) shapeCasts_S32x9x128_S32x1152 := by
  unfold Pipeline.afterTail₀
  show after hostOps1 _ (Proc.devRef .tc main_v2) = _
  rw [hostOps1]
  after_results
  have e := Pipeline.withArrays_arr spec0 (by decide) c (V0 m c) (fun w => (dats (F := Ideal) m 0 c).arrAt w (cfgs 0).N) 1
  exact congrArg (fun z : FVec Ideal S32x9x128 .f32 => shapeCast S32x1152 z shapeCasts_S32x9x128_S32x1152) e

/-- The program's result at a place, for real colours in the unit range: the image's feature. -/
theorem kernel_apply (m : (ℓ : Loc nD τ sig) → Buf (Elt Ideal) ℓ) (c : Dev nD) (x : Fin 32 → Fin 224 → Fin 224 → Fin 3 → ℝ)
    (hx : ∀ t i j k, (m ((c : Thread nD τ).loc main_arg0) : FVec Ideal S32x224x224x3 .f32) (ix4 t i j k) = ((x t i j k : ℝ) : EReal))
    (hu : ∀ t, InUnit (x t)) (t : Fin 32) (n : Fin 1152) :
    (Pipeline.afterTail₀ cfgs (dats (F := Ideal) m) 0 (V0 m) [hostOps1] c main_v2 : FVec Ideal S32x1152 .f32) (ix2 t n)
      = imageFeature (x t) n.val := by
  rw [tail_eq, array_eq m c x hx hu]
  have h : shapeCast S32x1152 (rowsOf x : FVec Ideal S32x9x128 .f32) shapeCasts_S32x9x128_S32x1152 (ix2 t n)
      = rowsOf x (ix3 t ⟨n.val / 128, by have := n.isLt; omega⟩ ⟨n.val % 128, by omega⟩) := by
    generalize rowsOf x = z
    pointwise
  refine h.trans ?_
  show imageFeature (x t) (n.val / 128 * 128 + n.val % 128) = _
  rw [Nat.div_add_mod']

end Cert.Lgop
-- ==== Proof.RefTerm.lean ====
module

public import proofs.«01_k».proof.Proof.Gen.ReferenceIdeal.Run
public import Idealize.ShloMosaic.Lib.Pointwise

@[expose] public section

set_option maxRecDepth 16384

noncomputable section

namespace Cert.Lgop

open Idealize.ShloMosaic Idealize.ShloMosaic.TcCoe Idealize.SL.Sem Idealize.ShloMosaic.StableHlo
open Cert.ReferenceIdeal Cert.ReferenceIdeal.Gen Cert.ReferenceIdeal.Value

/-- The reference's red plane. -/
def refR (X : FVec Ideal S32x224x224x3 .f32) : FVec Ideal S32x224x224 .f32 :=
  shapeCast S32x224x224 (extractStridedSlice S32x224x224x1 ![0, 0, 0, 0] X slices_S32x224x224x3_S32x224x224x1_0_0_0_0) shapeCasts_S32x224x224x1_S32x224x224

/-- The reference's green plane. -/
def refG (X : FVec Ideal S32x224x224x3 .f32) : FVec Ideal S32x224x224 .f32 :=
  shapeCast S32x224x224 (extractStridedSlice S32x224x224x1 ![0, 0, 0, 1] X slices_S32x224x224x3_S32x224x224x1_0_0_0_1) shapeCasts_S32x224x224x1_S32x224x224

/-- The reference's blue plane. -/
def refB (X : FVec Ideal S32x224x224x3 .f32) : FVec Ideal S32x224x224 .f32 :=
  shapeCast S32x224x224 (extractStridedSlice S32x224x224x1 ![0, 0, 0, 2] X slices_S32x224x224x3_S32x224x224x1_0_0_0_2) shapeCasts_S32x224x224x1_S32x224x224

/-- The reference's largest channel. -/
def refMax (X : FVec Ideal S32x224x224x3 .f32) : FVec Ideal S32x224x224 .f32 :=
  Host.reduce FloatOps.maximumf X (constant S_ .f32 0xFF800000#32) reducesTo_S32x224x224x3_S32x224x224_d3 h_S_

/-- The reference's smallest channel. -/
def refMin (X : FVec Ideal S32x224x224x3 .f32) : FVec Ideal S32x224x224 .f32 :=
  Host.reduce FloatOps.minimumf X (constant S_ .f32 0x7F800000#32) reducesTo_S32x224x224x3_S32x224x224_d3 h_S_

/-- The difference of two planes. -/
def refDeltaOf (m l : FVec Ideal S32x224x224 .f32) : FVec Ideal S32x224x224 .f32 :=
  subf m l

/-- The reference's largest channel less the smallest. -/
def refDelta (X : FVec Ideal S32x224x224x3 .f32) : FVec Ideal S32x224x224 .f32 :=
  refDeltaOf (refMax X) (refMin X)

/-- The reference's divisor, zero replaced by one, of the plane of differences. -/
def refSafeOf (d : FVec Ideal S32x224x224 .f32) : FVec Ideal S32x224x224 .f32 :=
  select (cmpf .oeq d (broadcastInDim S32x224x224 ![] bcast_S_S32x224x224 (constant S_ .f32 0x00000000#32))) (broadcastInDim S32x224x224 ![] bcast_S_S32x224x224 (id (constant S_ .f32 0x3F800000#32))) d

/-- The reference's divisor of an image. -/
def refSafe (X : FVec Ideal S32x224x224x3 .f32) : FVec Ideal S32x224x224 .f32 :=
  refSafeOf (refDelta X)

/-- The modulus of the hue. -/
def refSix  : FVec Ideal S_ .f32 :=
  id (constant S_ .f32 0x40C00000#32)

/-- The reference's truncated remainder of the red sextant, of the green and blue planes and the divisor. -/
def refRemOf (g b s : FVec Ideal S32x224x224 .f32) : FVec Ideal S32x224x224 .f32 :=
  Host.remf (Host.divf (subf g b) s) (broadcastInDim S32x224x224 ![] bcast_S_S32x224x224 refSix)

/-- The reference's truncated remainder of the red sextant of an image. -/
def refRem (X : FVec Ideal S32x224x224x3 .f32) : FVec Ideal S32x224x224 .f32 :=
  refRemOf (refG X) (refB X) (refSafe X)

/-- The reference's remainder with the sign of the modulus, of the truncated remainder. -/
def refWrapOf (m : FVec Ideal S32x224x224 .f32) : FVec Ideal S32x224x224 .f32 :=
  select (andi (cmpi .ne (cmpf .olt m (broadcastInDim S32x224x224 ![] bcast_S_S32x224x224 (constant S_ .f32 0x00000000#32))) (broadcastInDim S32x224x224 ![] bcast_S_S32x224x224 (cmpf .olt refSix (constant S_ .f32 0x00000000#32)))) (cmpf .une m (broadcastInDim S32x224x224 ![] bcast_S_S32x224x224 (constant S_ .f32 0x00000000#32)))) (addf m (broadcastInDim S32x224x224 ![] bcast_S_S32x224x224 refSix)) m

/-- The reference's remainder of the red sextant of an image. -/
def refWrap (X : FVec Ideal S32x224x224x3 .f32) : FVec Ideal S32x224x224 .f32 :=
  refWrapOf (refRem X)

/-- The reference's hue plane, of the planes it reads. -/
def refHueOf (r g b m d s w : FVec Ideal S32x224x224 .f32) : FVec Ideal S32x224x224 .f32 :=
  (select (cmpf .oeq d (broadcastInDim S32x224x224 ![] bcast_S_S32x224x224 (constant S_ .f32 0x00000000#32))) (broadcastInDim S32x224x224 ![] bcast_S_S32x224x224 (id (constant S_ .f32 0x00000000#32))) (Host.divf (select (cmpf .oeq m r) w (select (cmpf .oeq m g) (addf (Host.divf (subf b r) s) (broadcastInDim S32x224x224 ![] bcast_S_S32x224x224 (constant S_ .f32 0x40000000#32))) (addf (Host.divf (subf r g) s) (broadcastInDim S32x224x224 ![] bcast_S_S32x224x224 (constant S_ .f32 0x40800000#32))))) (broadcastInDim S32x224x224 ![] bcast_S_S32x224x224 (constant S_ .f32 0x40C00000#32))))

/-- The reference's hue plane. -/
def refHue (X : FVec Ideal S32x224x224x3 .f32) : FVec Ideal S32x224x224 .f32 :=
  refHueOf (refR X) (refG X) (refB X) (refMax X) (refDelta X) (refSafe X) (refWrap X)

/-- The reference's saturation plane, of the planes it reads. -/
def refSatOf (m d : FVec Ideal S32x224x224 .f32) : FVec Ideal S32x224x224 .f32 :=
  (select (cmpf .ogt m (broadcastInDim S32x224x224 ![] bcast_S_S32x224x224 (constant S_ .f32 0x00000000#32))) (Host.divf d (select (cmpf .oeq m (broadcastInDim S32x224x224 ![] bcast_S_S32x224x224 (constant S_ .f32 0x00000000#32))) (broadcastInDim S32x224x224 ![] bcast_S_S32x224x224 (id (constant S_ .f32 0x3F800000#32))) m)) (broadcastInDim S32x224x224 ![] bcast_S_S32x224x224 (id (constant S_ .f32 0x00000000#32))))

/-- The reference's saturation plane. -/
def refSat (X : FVec Ideal S32x224x224x3 .f32) : FVec Ideal S32x224x224 .f32 :=
  refSatOf (refMax X) (refDelta X)

/-- The reference's hue, saturation and value planes, stacked along the last axis. -/
def refHsv (X : FVec Ideal S32x224x224x3 .f32) : FVec Ideal S32x224x224x3 .f32 :=
  (concatenate S32x224x224x3 3 [⟨S32x224x224x1, ((broadcastInDim S32x224x224x1 ![0, 1, 2] bcast_S32x224x224_S32x224x224x1_0_1_2 (refHue X)) : FVec Ideal S32x224x224x1 .f32)⟩, ⟨S32x224x224x1, ((broadcastInDim S32x224x224x1 ![0, 1, 2] bcast_S32x224x224_S32x224x224x1_0_1_2 (refSat X)) : FVec Ideal S32x224x224x1 .f32)⟩, ⟨S32x224x224x1, ((broadcastInDim S32x224x224x1 ![0, 1, 2] bcast_S32x224x224_S32x224x224x1_0_1_2 (refMax X)) : FVec Ideal S32x224x224x1 .f32)⟩] concatenates_S32x224x224x1_S32x224x224x1_S32x224x224x1_S32x224x224x3_d3 : FVec Ideal S32x224x224x3 .f32)

/-- The reference's hue plane, taken off the stack. -/
def refH (X : FVec Ideal S32x224x224x3 .f32) : FVec Ideal S32x224x224 .f32 :=
  shapeCast S32x224x224 (extractStridedSlice S32x224x224x1 ![0, 0, 0, 0] (refHsv X) slices_S32x224x224x3_S32x224x224x1_0_0_0_0) shapeCasts_S32x224x224x1_S32x224x224

/-- The reference's saturation plane, taken off the stack. -/
def refS (X : FVec Ideal S32x224x224x3 .f32) : FVec Ideal S32x224x224 .f32 :=
  shapeCast S32x224x224 (extractStridedSlice S32x224x224x1 ![0, 0, 0, 1] (refHsv X) slices_S32x224x224x3_S32x224x224x1_0_0_0_1) shapeCasts_S32x224x224x1_S32x224x224

/-- The reference's value plane, taken off the stack. -/
def refV (X : FVec Ideal S32x224x224x3 .f32) : FVec Ideal S32x224x224 .f32 :=
  shapeCast S32x224x224 (extractStridedSlice S32x224x224x1 ![0, 0, 0, 2] (refHsv X) slices_S32x224x224x3_S32x224x224x1_0_0_0_2) shapeCasts_S32x224x224x1_S32x224x224

/-- A plane with a border of zeros. -/
def refPad (c : FVec Ideal S32x224x224 .f32) : FVec Ideal S32x226x226 .f32 :=
  pad S32x226x226 ![0, 1, 1] ![0, 1, 1] ![0, 0, 0] c (sitofp .f32 (constantI S_ 32 0#32)) pads_S32x224x224_S32x226x226_000_110_110 h_S_

/-- The eight neighbours of every pixel of a plane, stacked along the last axis. -/
def refStack (c : FVec Ideal S32x224x224 .f32) : FVec Ideal S32x224x224x8 .f32 :=
  concatenate S32x224x224x8 3 [⟨S32x224x224x1, ((broadcastInDim S32x224x224x1 ![0, 1, 2] bcast_S32x224x224_S32x224x224x1_0_1_2 (extractStridedSlice S32x224x224 ![0, 0, 0] (refPad c) slices_S32x226x226_S32x224x224_0_0_0)) : FVec Ideal S32x224x224x1 .f32)⟩, ⟨S32x224x224x1, ((broadcastInDim S32x224x224x1 ![0, 1, 2] bcast_S32x224x224_S32x224x224x1_0_1_2 (extractStridedSlice S32x224x224 ![0, 0, 1] (refPad c) slices_S32x226x226_S32x224x224_0_0_1)) : FVec Ideal S32x224x224x1 .f32)⟩, ⟨S32x224x224x1, ((broadcastInDim S32x224x224x1 ![0, 1, 2] bcast_S32x224x224_S32x224x224x1_0_1_2 (extractStridedSlice S32x224x224 ![0, 0, 2] (refPad c) slices_S32x226x226_S32x224x224_0_0_2)) : FVec Ideal S32x224x224x1 .f32)⟩, ⟨S32x224x224x1, ((broadcastInDim S32x224x224x1 ![0, 1, 2] bcast_S32x224x224_S32x224x224x1_0_1_2 (extractStridedSlice S32x224x224 ![0, 1, 0] (refPad c) slices_S32x226x226_S32x224x224_0_1_0)) : FVec Ideal S32x224x224x1 .f32)⟩, ⟨S32x224x224x1, ((broadcastInDim S32x224x224x1 ![0, 1, 2] bcast_S32x224x224_S32x224x224x1_0_1_2 (extractStridedSlice S32x224x224 ![0, 1, 2] (refPad c) slices_S32x226x226_S32x224x224_0_1_2)) : FVec Ideal S32x224x224x1 .f32)⟩, ⟨S32x224x224x1, ((broadcastInDim S32x224x224x1 ![0, 1, 2] bcast_S32x224x224_S32x224x224x1_0_1_2 (extractStridedSlice S32x224x224 ![0, 2, 0] (refPad c) slices_S32x226x226_S32x224x224_0_2_0)) : FVec Ideal S32x224x224x1 .f32)⟩, ⟨S32x224x224x1, ((broadcastInDim S32x224x224x1 ![0, 1, 2] bcast_S32x224x224_S32x224x224x1_0_1_2 (extractStridedSlice S32x224x224 ![0, 2, 1] (refPad c) slices_S32x226x226_S32x224x224_0_2_1)) : FVec Ideal S32x224x224x1 .f32)⟩, ⟨S32x224x224x1, ((broadcastInDim S32x224x224x1 ![0, 1, 2] bcast_S32x224x224_S32x224x224x1_0_1_2 (extractStridedSlice S32x224x224 ![0, 2, 2] (refPad c) slices_S32x226x226_S32x224x224_0_2_2)) : FVec Ideal S32x224x224x1 .f32)⟩] concatenates_S32x224x224x1_S32x224x224x1_S32x224x224x1_S32x224x224x1_S32x224x224x1_S32x224x224x1_S32x224x224x1_S32x224x224x1_S32x224x224x8_d3

/-- The bins of the eight neighbours of every pixel of a plane. -/
def refLgopIdx (c : FVec Ideal S32x224x224 .f32) : IVec S32x401408 32 :=
  minsi (broadcastInDim S32x401408 ![] bcast_S_S32x401408 (id (constantI S_ 32 255#32))) (maxsi (broadcastInDim S32x401408 ![] bcast_S_S32x401408 (id (constantI S_ 32 0#32))) (fptosi 32 (mulf (Host.divf (subf (shapeCast S32x401408 (refStack c) shapeCasts_S32x224x224x8_S32x401408) (broadcastInDim S32x401408 ![] bcast_S_S32x401408 (constant S_ .f32 0x00000000#32))) (broadcastInDim S32x401408 ![] bcast_S_S32x401408 (constant S_ .f32 0x437F0000#32))) (broadcastInDim S32x401408 ![] bcast_S_S32x401408 (constant S_ .f32 0x437F0000#32)))))

/-- The bins of the comparison of every pixel of a plane with the mean. -/
def refNlbpIdx (c : FVec Ideal S32x224x224 .f32) : IVec S32x50176 32 :=
  minsi (broadcastInDim S32x50176 ![] bcast_S_S32x50176 (id (constantI S_ 32 127#32))) (maxsi (broadcastInDim S32x50176 ![] bcast_S_S32x50176 (id (constantI S_ 32 0#32))) (fptosi 32 (mulf (Host.divf (subf (shapeCast S32x50176 (select (cmpf .ogt c (broadcastInDim S32x224x224 ![0, 1, 2] bcast_S32x1x1_S32x224x224_0_1_2 (broadcastInDim S32x1x1 ![0] bcast_S32_S32x1x1_0 (Host.divf (Host.reduceAdd (shapeCast S32x50176 c shapeCasts_S32x224x224_S32x50176) (constant S_ .f32 0x00000000#32) reducesTo_S32x50176_S32_d1 h_S_) (broadcastInDim S32 ![] bcast_S_S32 (constant S_ .f32 0x47440000#32)))))) (broadcastInDim S32x224x224 ![] bcast_S_S32x224x224 (constant S_ .f32 0x3F800000#32)) (broadcastInDim S32x224x224 ![] bcast_S_S32x224x224 (constant S_ .f32 0x00000000#32))) shapeCasts_S32x224x224_S32x50176) (broadcastInDim S32x50176 ![] bcast_S_S32x50176 (constant S_ .f32 0x00000000#32))) (broadcastInDim S32x50176 ![] bcast_S_S32x50176 (constant S_ .f32 0x3F800001#32))) (broadcastInDim S32x50176 ![] bcast_S_S32x50176 (constant S_ .f32 0x42FE0000#32)) : FVec Ideal S32x50176 .f32)))

/-- The numbers of the images. -/
def refRow  : IVec S32x1 32 :=
  broadcastInDim S32x1 ![0] bcast_S32_S32x1_0 (iotaInDim S32 32 0)

/-- The places the neighbours' bins are counted at: the image's number beside the bin, a negative one wrapped. -/
def refLgopPair (k : IVec S32x401408 32) : IVec S32x401408x2 32 :=
  concatenate S32x401408x2 2 [⟨S32x401408x1, (broadcastInDim S32x401408x1 ![0, 1] bcast_S32x401408_S32x401408x1_0_1 (broadcastInDim S32x401408 ![0, 1] bcast_S32x1_S32x401408_0_1 (select (cmpi .slt refRow (broadcastInDim S32x1 ![] bcast_S_S32x1 (constantI S_ 32 0#32))) (addi refRow (broadcastInDim S32x1 ![] bcast_S_S32x1 (constantI S_ 32 32#32))) refRow)))⟩, ⟨S32x401408x1, (broadcastInDim S32x401408x1 ![0, 1] bcast_S32x401408_S32x401408x1_0_1 (select (cmpi .slt k (broadcastInDim S32x401408 ![] bcast_S_S32x401408 (constantI S_ 32 0#32))) (addi k (broadcastInDim S32x401408 ![] bcast_S_S32x401408 (constantI S_ 32 256#32))) k))⟩] concatenates_S32x401408x1_S32x401408x1_S32x401408x2_d2

/-- The histogram of the neighbours' bins. -/
def refLgop (c : FVec Ideal S32x224x224 .f32) : FVec Ideal S32x256 .f32 :=
  Host.scatterAdd scatter_S32x256_S32x401408x2_S32x401408_n_01_01_2 (broadcastInDim S32x256 ![] bcast_S_S32x256 (constant S_ .f32 0x00000000#32)) (refLgopPair (refLgopIdx c)) (broadcastInDim S32x401408 ![] bcast_S_S32x401408 (constant S_ .f32 0x3F800000#32))

/-- The places the comparison's bins are counted at: the image's number beside the bin, a negative one wrapped. -/
def refNlbpPair (k : IVec S32x50176 32) : IVec S32x50176x2 32 :=
  concatenate S32x50176x2 2 [⟨S32x50176x1, (broadcastInDim S32x50176x1 ![0, 1] bcast_S32x50176_S32x50176x1_0_1 (broadcastInDim S32x50176 ![0, 1] bcast_S32x1_S32x50176_0_1 (select (cmpi .slt refRow (broadcastInDim S32x1 ![] bcast_S_S32x1 (constantI S_ 32 0#32))) (addi refRow (broadcastInDim S32x1 ![] bcast_S_S32x1 (constantI S_ 32 32#32))) refRow)))⟩, ⟨S32x50176x1, (broadcastInDim S32x50176x1 ![0, 1] bcast_S32x50176_S32x50176x1_0_1 (select (cmpi .slt k (broadcastInDim S32x50176 ![] bcast_S_S32x50176 (constantI S_ 32 0#32))) (addi k (broadcastInDim S32x50176 ![] bcast_S_S32x50176 (constantI S_ 32 128#32))) k))⟩] concatenates_S32x50176x1_S32x50176x1_S32x50176x2_d2

/-- The histogram of the comparison's bins. -/
def refNlbp (c : FVec Ideal S32x224x224 .f32) : FVec Ideal S32x128 .f32 :=
  Host.scatterAdd scatter_S32x128_S32x50176x2_S32x50176_n_01_01_2 (broadcastInDim S32x128 ![] bcast_S_S32x128 (constant S_ .f32 0x00000000#32)) (refNlbpPair (refNlbpIdx c)) (broadcastInDim S32x50176 ![] bcast_S_S32x50176 (constant S_ .f32 0x3F800000#32))

/-- Six histograms side by side. -/
def refJoin (lh : FVec Ideal S32x256 .f32) (nh : FVec Ideal S32x128 .f32) (ls : FVec Ideal S32x256 .f32) (ns : FVec Ideal S32x128 .f32) (lv : FVec Ideal S32x256 .f32) (nv : FVec Ideal S32x128 .f32) : FVec Ideal S32x1152 .f32 :=
  (concatenate S32x1152 1 [⟨S32x256, (lh : FVec Ideal S32x256 .f32)⟩, ⟨S32x128, (nh : FVec Ideal S32x128 .f32)⟩, ⟨S32x256, (ls : FVec Ideal S32x256 .f32)⟩, ⟨S32x128, (ns : FVec Ideal S32x128 .f32)⟩, ⟨S32x256, (lv : FVec Ideal S32x256 .f32)⟩, ⟨S32x128, (nv : FVec Ideal S32x128 .f32)⟩] concatenates_S32x256_S32x128_S32x256_S32x128_S32x256_S32x128_S32x1152_d1 : FVec Ideal S32x1152 .f32)

/-- The six histograms of the image's planes, side by side. -/
def refFeat (X : FVec Ideal S32x224x224x3 .f32) : FVec Ideal S32x1152 .f32 :=
  refJoin (refLgop (refH X)) (refNlbp (refH X)) (refLgop (refS X)) (refNlbp (refS X)) (refLgop (refV X)) (refNlbp (refV X))

/-- Rows over their lengths. -/
def refNorm (f : FVec Ideal S32x1152 .f32) : FVec Ideal S32x1152 .f32 :=
  mulf f (broadcastInDim S32x1152 ![0, 1] bcast_S32x1_S32x1152_0_1 (Host.rsqrt (maximumf (broadcastInDim S32x1 ![0] bcast_S32_S32x1_0 (Host.reduceAdd (mulf f f) (constant S_ .f32 0x00000000#32) reducesTo_S32x1152_S32_d1 h_S_)) (broadcastInDim S32x1 ![] bcast_S_S32x1 (constant S_ .f32 0x2B8CBCCC#32)))))

/-- The reference's features are the six histograms of its three planes: each channel goes through the same two functions. -/
theorem refFeat_eq (V0 : Valuation τ sig (Elt Ideal)) :
    res_main_v295 (F := Ideal) V0 = refFeat (V0 (Proc.devRef .tc main_arg0)) := rfl

end Cert.Lgop
-- ==== Proof.RefPixel.lean ====
module

public import proofs.«01_k».proof.Proof.RefTerm
public import proofs.«01_k».proof.Proof.Pixel

@[expose] public section

set_option maxRecDepth 16384

noncomputable section

namespace Cert.Lgop

open Idealize.ShloMosaic Idealize.ShloMosaic.TcCoe Idealize.SL.Sem Idealize.ShloMosaic.StableHlo
open Cert.ReferenceIdeal Cert.ReferenceIdeal.Gen

/-- A maximum over three places from minus infinity. -/
theorem fold_max3 (f : Fin 3 → EReal) : Finset.fold max ⊥ f Finset.univ = max (max (f 0) (f 1)) (f 2) := by
  rw [(by decide : (Finset.univ : Finset (Fin 3)) = {0, 1, 2}), Finset.fold_insert (by decide), Finset.fold_insert (by decide),
    Finset.fold_singleton, max_bot_right, max_assoc]

/-- A minimum over three places from infinity. -/
theorem fold_min3 (f : Fin 3 → EReal) : Finset.fold min ⊤ f Finset.univ = min (min (f 0) (f 1)) (f 2) := by
  rw [(by decide : (Finset.univ : Finset (Fin 3)) = {0, 1, 2}), Finset.fold_insert (by decide), Finset.fold_insert (by decide),
    Finset.fold_singleton, min_top_right, min_assoc]

/-- The reference's largest channel at a pixel is the pixel's value. -/
theorem refMax_apply (X : FVec Ideal S32x224x224x3 .f32) (t : Fin 32) (i j : Fin 224) :
    refMax X (ix3 t i j) = value (X (ix4 t i j 0)) (X (ix4 t i j 1)) (X (ix4 t i j 2)) := by
  have h : refMax X (ix3 t i j) = Finset.fold max (Ideal.ofBits FTy.f32 0xFF800000#32) (fun x => X (ix4 t i j x)) Finset.univ := by
    pointwise [refMax]
  rw [h, lit_neg_inf, fold_max3]
  rfl

/-- The reference's smallest channel at a pixel. -/
theorem refMin_apply (X : FVec Ideal S32x224x224x3 .f32) (t : Fin 32) (i j : Fin 224) :
    refMin X (ix3 t i j) = min (min (X (ix4 t i j 0)) (X (ix4 t i j 1))) (X (ix4 t i j 2)) := by
  have h : refMin X (ix3 t i j) = Finset.fold min (Ideal.ofBits FTy.f32 0x7F800000#32) (fun x => X (ix4 t i j x)) Finset.univ := by
    pointwise [refMin]
  rw [h, lit_inf, fold_min3]

/-- The difference of two planes, read at a pixel. -/
theorem refDeltaOf_apply (m l : FVec Ideal S32x224x224 .f32) (t : Fin 32) (i j : Fin 224) :
    refDeltaOf m l (ix3 t i j) = m (ix3 t i j) - l (ix3 t i j) := by
  pointwise [refDeltaOf]

/-- The reference's spread at a pixel. -/
theorem refDelta_apply (X : FVec Ideal S32x224x224x3 .f32) (t : Fin 32) (i j : Fin 224) :
    refDelta X (ix3 t i j) = delta (X (ix4 t i j 0)) (X (ix4 t i j 1)) (X (ix4 t i j 2)) := by
  rw [refDelta, refDeltaOf_apply, refMax_apply, refMin_apply]
  rfl

/-- The reference's divisor, read at a pixel. -/
theorem refSafeOf_apply (d : FVec Ideal S32x224x224 .f32) (t : Fin 32) (i j : Fin 224) :
    refSafeOf d (ix3 t i j) = safe (d (ix3 t i j)) := by
  pointwise [refSafeOf, id]
  rfl

/-- The reference's planes of one channel, read at a pixel. -/
theorem refR_apply (X : FVec Ideal S32x224x224x3 .f32) (t : Fin 32) (i j : Fin 224) : refR X (ix3 t i j) = X (ix4 t i j 0) := by
  pointwise [refR]

/-- The green plane, read at a pixel. -/
theorem refG_apply (X : FVec Ideal S32x224x224x3 .f32) (t : Fin 32) (i j : Fin 224) : refG X (ix3 t i j) = X (ix4 t i j 1) := by
  pointwise [refG]

/-- The blue plane, read at a pixel. -/
theorem refB_apply (X : FVec Ideal S32x224x224x3 .f32) (t : Fin 32) (i j : Fin 224) : refB X (ix3 t i j) = X (ix4 t i j 2) := by
  pointwise [refB]

/-- The truncated remainder, read at a pixel. -/
theorem refRemOf_apply (g b s : FVec Ideal S32x224x224 .f32) (t : Fin 32) (i j : Fin 224) :
    refRemOf g b s (ix3 t i j)
      = Ideal.remf (Ideal.div (g (ix3 t i j) - b (ix3 t i j)) (s (ix3 t i j))) (Ideal.ofBits .f32 0x40C00000#32) := by
  pointwise [refRemOf, refSix, id]

/-- The remainder with the sign of six, read at a pixel. -/
theorem refWrapOf_apply (m : FVec Ideal S32x224x224 .f32) (t : Fin 32) (i j : Fin 224) :
    refWrapOf m (ix3 t i j) = Scalar.select
      (IntOp.andi
        (IntOp.cmpi CmpIPredicate.ne (BitVec.ofBool (decide (m (ix3 t i j) < 0)))
          (BitVec.ofBool (decide (Ideal.ofBits .f32 0x40C00000#32 < 0))))
        (BitVec.ofBool (decide (m (ix3 t i j) ≠ 0))))
      (m (ix3 t i j) + Ideal.ofBits .f32 0x40C00000#32) (m (ix3 t i j)) := by
  pointwise [refWrapOf, refSix, id]

/-- The hue plane of the planes it reads, at a pixel. -/
theorem refHueOf_apply (r g b m d s w : FVec Ideal S32x224x224 .f32) (t : Fin 32) (i j : Fin 224) :
    refHueOf r g b m d s w (ix3 t i j)
      = if d (ix3 t i j) = 0 then 0 else
        Ideal.div
          (if m (ix3 t i j) = r (ix3 t i j) then w (ix3 t i j)
           else if m (ix3 t i j) = g (ix3 t i j) then
             Ideal.div (b (ix3 t i j) - r (ix3 t i j)) (s (ix3 t i j)) + Ideal.ofBits .f32 0x40000000#32
           else Ideal.div (r (ix3 t i j) - g (ix3 t i j)) (s (ix3 t i j)) + Ideal.ofBits .f32 0x40800000#32)
          (Ideal.ofBits .f32 0x40C00000#32) := by
  pointwise [refHueOf, id]

/-- The saturation plane of the planes it reads, at a pixel. -/
theorem refSatOf_apply (m d : FVec Ideal S32x224x224 .f32) (t : Fin 32) (i j : Fin 224) :
    refSatOf m d (ix3 t i j)
      = if 0 < m (ix3 t i j) then Ideal.div (d (ix3 t i j)) (safe (m (ix3 t i j))) else 0 := by
  pointwise [refSatOf, id]
  rfl

/-- The hue plane, taken off the stack. -/
theorem refH_eq (X : FVec Ideal S32x224x224x3 .f32) (t : Fin 32) (i j : Fin 224) : refH X (ix3 t i j) = refHue X (ix3 t i j) := by
  pointwise [refH, refHsv]

/-- The saturation plane, taken off the stack. -/
theorem refS_eq (X : FVec Ideal S32x224x224x3 .f32) (t : Fin 32) (i j : Fin 224) : refS X (ix3 t i j) = refSat X (ix3 t i j) := by
  pointwise [refS, refHsv]

/-- The value plane, taken off the stack. -/
theorem refV_eq (X : FVec Ideal S32x224x224x3 .f32) (t : Fin 32) (i j : Fin 224) : refV X (ix3 t i j) = refMax X (ix3 t i j) := by
  pointwise [refV, refHsv]

/-- The reference's value at a pixel. -/
theorem refV_apply (X : FVec Ideal S32x224x224x3 .f32) (t : Fin 32) (i j : Fin 224) :
    refV X (ix3 t i j) = value (X (ix4 t i j 0)) (X (ix4 t i j 1)) (X (ix4 t i j 2)) := by
  rw [refV_eq, refMax_apply]

/-- The reference's saturation at a pixel. -/
theorem refS_apply (X : FVec Ideal S32x224x224x3 .f32) (t : Fin 32) (i j : Fin 224) :
    refS X (ix3 t i j) = sat (X (ix4 t i j 0)) (X (ix4 t i j 1)) (X (ix4 t i j 2)) := by
  rw [refS_eq, refSat, refSatOf_apply, refMax_apply, refDelta_apply]
  rfl

/-- The reference's hue at a real pixel: its remainder by six is the kernel's comparison. -/
theorem refH_apply (X : FVec Ideal S32x224x224x3 .f32) (t : Fin 32) (i j : Fin 224) (r g b : ℝ)
    (hr : X (ix4 t i j 0) = (r : EReal)) (hg : X (ix4 t i j 1) = (g : EReal)) (hb : X (ix4 t i j 2) = (b : EReal)) :
    refH X (ix3 t i j) = hue (X (ix4 t i j 0)) (X (ix4 t i j 1)) (X (ix4 t i j 2)) := by
  rw [refH_eq, refHue, refHueOf_apply, refWrap, refWrapOf_apply, refRem, refRemOf_apply, refSafe, refSafeOf_apply,
    refMax_apply, refDelta_apply, refR_apply, refG_apply, refB_apply, hr, hg, hb]
  obtain ⟨d, hd, hd0, hd1⟩ := sextant_real r g b
  rw [hd, wrap_eq d hd0 hd1]
  unfold hue
  rw [hd]

end Cert.Lgop
-- ==== Proof.Scatter.lean ====
module

public import Idealize.ShloMosaic.Lib.Pointwise
public import Idealize.ShloMosaic.Lib.Routing.OpsPair
public import proofs.«01_k».proof.Proof.Bins

@[expose] public section

noncomputable section

namespace Cert.Lgop

open Idealize.ShloMosaic Idealize.ShloMosaic.TcCoe Idealize.SL.Sem Idealize.ShloMosaic.StableHlo

/-- The two spellings of a pair of places agree. -/
theorem value_ix2 {m n : ℕ} (a : Fin m) (b : Fin n) : ValueIdx.ix2 a b = ix2 a b := by
  funext i
  match i with
  | ⟨0, _⟩ => rfl
  | ⟨1, _⟩ => rfl

/-- The two spellings of a triple of places agree. -/
theorem value_ix3 {m n p : ℕ} (a : Fin m) (b : Fin n) (c : Fin p) : ValueIdx.ix3 a b c = ix3 a b c := by
  funext i
  match i with
  | ⟨0, _⟩ => rfl
  | ⟨1, _⟩ => rfl
  | ⟨2, _⟩ => rfl

/-- Ones counted into a plane of zeros: each place holds how many updates of its row name it. -/
theorem count_at {R C N : ℕ} (d : ScatterDims (⟨2, ![R, C]⟩ : Shape) (⟨3, ![R, N, 2]⟩ : Shape) (⟨2, ![R, N]⟩ : Shape))
    (h1 : d.insertedWindowDims = [0, 1]) (h2 : d.scatterDimsToOperandDims = [0, 1]) (h3 : d.indexVectorDim = 2)
    (x : FVec Ideal (⟨2, ![R, C]⟩ : Shape) .f32) (idx : IVec (⟨3, ![R, N, 2]⟩ : Shape) 32)
    (upd : FVec Ideal (⟨2, ![R, N]⟩ : Shape) .f32)
    (hrow : ∀ a n, (idx (ix3 a n 0)).toInt = (a.val : ℤ)) (r : Fin R) (c : Fin C) :
    Host.scatterAdd (F := Ideal) d x idx upd (ix2 r c)
      = x (ix2 r c) + ∑ n : Fin N, if (idx (ix3 r n 1)).toInt = (c.val : ℤ) then upd (ix2 r n) else 0 := by
  show x (ix2 r c) + _ = _
  congr 1
  rw [Finset.sum_filter]
  have hs := sum_idx2 (fun j : (⟨2, ![R, N]⟩ : Shape).Idx => if d.resultIdx? j idx = some (ix2 r c) then upd j else 0)
  refine hs.trans ?_
  have hl : ∀ (a : Fin R) (n : Fin N), d.resultIdx? (ix2 a n) idx = some (ix2 r c) ↔
      (idx (ix3 a n 0)).toInt = (r.val : ℤ) ∧ (idx (ix3 a n 1)).toInt = (c.val : ℤ) := fun a n => by
    have h := Routing.scatter_lands2 d h1 h2 h3 idx a n r c
    rwa [value_ix2, value_ix2, value_ix3, value_ix3] at h
  rw [Finset.sum_eq_single r]
  · refine Finset.sum_congr rfl fun n _ => ?_
    refine if_congr ((hl r n).trans ?_) rfl rfl
    exact ⟨fun h => h.2, fun h => ⟨hrow r n, h⟩⟩
  · intro a _ ha
    refine Finset.sum_eq_zero fun n _ => ?_
    rw [if_neg]
    intro h
    have := ((hl a n).mp h).1
    rw [hrow] at this
    exact ha (Fin.ext (by exact_mod_cast this))
  · intro hn; exact absurd (Finset.mem_univ _) hn

/-- Ones counted into zeros: a whole number, taken as a real number. -/
theorem count_ones {R C N : ℕ} (d : ScatterDims (⟨2, ![R, C]⟩ : Shape) (⟨3, ![R, N, 2]⟩ : Shape) (⟨2, ![R, N]⟩ : Shape))
    (h1 : d.insertedWindowDims = [0, 1]) (h2 : d.scatterDimsToOperandDims = [0, 1]) (h3 : d.indexVectorDim = 2)
    (x : FVec Ideal (⟨2, ![R, C]⟩ : Shape) .f32) (idx : IVec (⟨3, ![R, N, 2]⟩ : Shape) 32)
    (upd : FVec Ideal (⟨2, ![R, N]⟩ : Shape) .f32)
    (hrow : ∀ a n, (idx (ix3 a n 0)).toInt = (a.val : ℤ)) (r : Fin R) (c : Fin C)
    (hx : x (ix2 r c) = (0 : EReal)) (hu : ∀ n, upd (ix2 r n) = (1 : EReal)) :
    Host.scatterAdd (F := Ideal) d x idx upd (ix2 r c)
      = ((∑ n : Fin N, if (idx (ix3 r n 1)).toInt = (c.val : ℤ) then 1 else 0 : ℝ) : EReal) := by
  rw [count_at d h1 h2 h3 x idx upd hrow, ← coe_sum]
  refine (congrArg₂ (· + ·) hx (Finset.sum_congr rfl fun n _ => ?_)).trans (zero_add _)
  rw [hu]
  split
  · exact EReal.coe_one.symm
  · exact EReal.coe_zero.symm

end Cert.Lgop
-- ==== Proof.RefHist.lean ====
module

public import proofs.«01_k».proof.Proof.RefTerm
public import proofs.«01_k».proof.Proof.Bins
public import proofs.«01_k».proof.Proof.Count
public import proofs.«01_k».proof.Proof.Scatter

@[expose] public section

set_option maxRecDepth 16384

noncomputable section

namespace Cert.Lgop

open Idealize.ShloMosaic Idealize.ShloMosaic.TcCoe Idealize.SL.Sem Idealize.ShloMosaic.StableHlo
open Cert.ReferenceIdeal Cert.ReferenceIdeal.Gen

/-- The row word of an image is its number. -/
theorem row_word : ∀ t : Fin 32,
    (Scalar.select (IntOp.cmpi .slt (BitVec.ofNat 32 t.val) 0#32) (IntOp.addi (BitVec.ofNat 32 t.val) 32#32)
      (BitVec.ofNat 32 t.val)).toInt = (t.val : ℤ) := by
  decide

/-- The first word of a neighbour's place is the image. -/
theorem lgopPair_row (k : IVec S32x401408 32) (t : Fin 32) (n : Fin 401408) :
    (refLgopPair k (ix3 t n 0)).toInt = (t.val : ℤ) := by
  pointwise [refLgopPair, refRow]
  exact row_word t

/-- The second word of a neighbour's place is the bin, when not negative. -/
theorem lgopPair_bin (k : IVec S32x401408 32) (t : Fin 32) (n : Fin 401408) (h : (k (ix2 t n)).toNat < 2 ^ 31) :
    refLgopPair k (ix3 t n 1) = k (ix2 t n) := by
  pointwise [refLgopPair, refRow]
  exact Routing.wrap_of_lt _ _ h

/-- The first word of a comparison's place is the image. -/
theorem nlbpPair_row (k : IVec S32x50176 32) (t : Fin 32) (n : Fin 50176) :
    (refNlbpPair k (ix3 t n 0)).toInt = (t.val : ℤ) := by
  pointwise [refNlbpPair, refRow]
  exact row_word t

/-- The second word of a comparison's place is the bin, when not negative. -/
theorem nlbpPair_bin (k : IVec S32x50176 32) (t : Fin 32) (n : Fin 50176) (h : (k (ix2 t n)).toNat < 2 ^ 31) :
    refNlbpPair k (ix3 t n 1) = k (ix2 t n) := by
  pointwise [refNlbpPair, refRow]
  exact Routing.wrap_of_lt _ _ h

/-- The bordered plane is the plane inside and zero on the border. -/
theorem refPad_apply (c : FVec Ideal S32x224x224 .f32) (t : Fin 32) (C : Fin 224 → Fin 224 → ℝ)
    (hc : ∀ i j, c (ix3 t i j) = ((C i j : ℝ) : EReal)) (p q : Fin 226) :
    refPad c (ix3 t p q) = ((padAt C p.val q.val : ℝ) : EReal) := by
  pointwise [refPad]
  unfold padAt
  split
  · exact hc _ _
  · show (((0#32 : BitVec 32).toInt : ℝ) : EReal) = _
    simp

/-- The stack holds the eight neighbours. -/
theorem refStack_apply (c : FVec Ideal S32x224x224 .f32) (t : Fin 32) (C : Fin 224 → Fin 224 → ℝ)
    (hc : ∀ i j, c (ix3 t i j) = ((C i j : ℝ) : EReal)) (i j : Fin 224) (k : Fin 8) :
    refStack c (ix4 t i j k) = ((padAt C (i.val + dy k) (j.val + dx k) : ℝ) : EReal) := by
  pointwise [refStack]
  rw [dy_eq, dx_eq]
  fin_vals k with hk <;>
    (simp only [hk, Nat.reduceSub, Nat.reduceLT, ↓reduceDIte]
     rw [refPad_apply c t C hc]
     congr 2 <;> (simp; try omega))

/-- A bordered plane in the unit range is in the unit range. -/
theorem padAt_unit (C : Fin 224 → Fin 224 → ℝ) (hC : ∀ i j, 0 ≤ C i j ∧ C i j ≤ 1) (p q : ℕ) :
    0 ≤ padAt C p q ∧ padAt C p q ≤ 1 := by
  unfold padAt
  split
  · exact hC _ _
  · exact ⟨le_rfl, zero_le_one⟩

/-- The neighbours' bins: one where the neighbour reaches one, else zero. -/
theorem refLgopIdx_apply (c : FVec Ideal S32x224x224 .f32) (t : Fin 32) (C : Fin 224 → Fin 224 → ℝ)
    (hc : ∀ i j, c (ix3 t i j) = ((C i j : ℝ) : EReal)) (hC : ∀ i j, 0 ≤ C i j ∧ C i j ≤ 1)
    (i j : Fin 224) (k : Fin 8) (h : (i.val * 224 + j.val) * 8 + k.val < 401408) :
    refLgopIdx c (ix2 t ⟨(i.val * 224 + j.val) * 8 + k.val, h⟩)
      = if 1 ≤ padAt C (i.val + dy k) (j.val + dx k) then 1#32 else 0#32 := by
  have hi := i.isLt
  have hj := j.isLt
  have hk := k.isLt
  have e : refLgopIdx c (ix2 t ⟨(i.val * 224 + j.val) * 8 + k.val, h⟩)
      = IntOp.minsi 255#32 (IntOp.maxsi 0#32 (Ideal.fptosi 32
        (Ideal.div (refStack c (ix4 t i j k)) (Ideal.ofBits .f32 0x437F0000#32) * Ideal.ofBits .f32 0x437F0000#32))) := by
    pointwise [refLgopIdx, id]
    rfl
  rw [e, refStack_apply c t C hc, nbr_bin _ (padAt_unit C hC _ _).1 (padAt_unit C hC _ _).2]

/-- The mean of a plane. -/
theorem mean_eq (C : Fin 224 → Fin 224 → ℝ) :
    Ideal.div (∑ i, ∑ j, ((C i j : ℝ) : EReal)) (Ideal.ofBits .f32 0x47440000#32) = (((∑ i, ∑ j, C i j) / 50176 : ℝ) : EReal) := by
  have e : (∑ i, ∑ j, ((C i j : ℝ) : EReal)) = ((∑ i, ∑ j, C i j : ℝ) : EReal) := by simp only [coe_sum]
  rw [e, lit_pix, Ideal.div_coe (by norm_num), ← EReal.coe_mul]
  congr 1
  ring

/-- The comparison's bins: one hundred and twenty-six where the pixel exceeds the mean, else zero. -/
theorem refNlbpIdx_apply (c : FVec Ideal S32x224x224 .f32) (t : Fin 32) (C : Fin 224 → Fin 224 → ℝ)
    (hc : ∀ i j, c (ix3 t i j) = ((C i j : ℝ) : EReal)) (i j : Fin 224) (h : i.val * 224 + j.val < 50176) :
    refNlbpIdx c (ix2 t ⟨i.val * 224 + j.val, h⟩) = if (∑ a, ∑ b, C a b) / 50176 < C i j then 126#32 else 0#32 := by
  have hi := i.isLt
  have hj := j.isLt
  have hs : (∑ x : Fin 50176, c (ix3 t ⟨x.val / 224, by omega⟩ ⟨x.val % 224, by omega⟩)) = ∑ i, ∑ j, ((C i j : ℝ) : EReal) := by
    rw [Fin.sum_univ_tiles 224 224 rfl]
    refine Finset.sum_congr rfl fun a _ => Finset.sum_congr rfl fun b _ => ?_
    rw [← hc]
    congr 2 <;> exact Fin.ext (by show _ = _; simp <;> omega)
  have e : refNlbpIdx c (ix2 t ⟨i.val * 224 + j.val, h⟩)
      = IntOp.minsi 127#32 (IntOp.maxsi 0#32 (Ideal.fptosi 32
        (Ideal.div (if (∑ a, ∑ b, C a b) / 50176 < C i j then 1 else 0) (Ideal.ofBits .f32 0x3F800001#32) * Ideal.ofBits .f32 0x42FE0000#32))) := by
    pointwise [refNlbpIdx, id]
    rw [hs, mean_eq, hc]
    simp only [EReal.coe_lt_coe_iff]
    rfl
  rw [e, mean_bin]

/-- A choice of two bins, each at its own place, counted at a place. -/
theorem two_bins (p : Prop) [Decidable p] (m b : ℕ) (hm : 0 < m) :
    (if ((if p then m else 0 : ℕ) : ℤ) = (b : ℤ) then (1 : ℝ) else 0)
      = if b = 0 then (if p then 0 else 1) else if b = m then (if p then 1 else 0) else 0 := by
  by_cases h : p
  · simp only [if_pos h]
    split_ifs <;> first | rfl | omega
  · simp only [if_neg h]
    split_ifs <;> first | rfl | omega

/-- The histogram of the neighbours' bins: the neighbours below one, those that reach one, and nothing else. -/
theorem refLgop_apply (c : FVec Ideal S32x224x224 .f32) (t : Fin 32) (C : Fin 224 → Fin 224 → ℝ)
    (hc : ∀ i j, c (ix3 t i j) = ((C i j : ℝ) : EReal)) (hC : ∀ i j, 0 ≤ C i j ∧ C i j ≤ 1) (b : Fin 256) :
    refLgop c (ix2 t b)
      = ((if b.val = 0 then 401408 - nbrCount C else if b.val = 1 then nbrCount C else 0 : ℝ) : EReal) := by
  have hz : (broadcastInDim S32x256 ![] bcast_S_S32x256 (constant (F := Ideal) S_ .f32 0x00000000#32)) (ix2 t b) = (0 : EReal) := by
    pointwise []
  have ho : ∀ n, (broadcastInDim S32x401408 ![] bcast_S_S32x401408 (constant (F := Ideal) S_ .f32 0x3F800000#32)) (ix2 t n) = (1 : EReal) := fun n => by
    pointwise []
  unfold refLgop
  rw [count_ones _ rfl rfl rfl _ _ _ (lgopPair_row _) t b hz ho]
  refine congrArg (fun r : ℝ => (r : EReal)) ?_
  rw [Fin.sum_univ_tiles 50176 8 rfl, Fin.sum_univ_tiles 224 224 rfl]
  have e : ∀ (i j : Fin 224) (k : Fin 8) (h : (i.val * 224 + j.val) * 8 + k.val < 401408),
      (if (refLgopPair (refLgopIdx c) (ix3 t ⟨(i.val * 224 + j.val) * 8 + k.val, h⟩ 1)).toInt = (b.val : ℤ) then (1 : ℝ) else 0)
      = if b.val = 0 then (if 1 ≤ padAt C (i.val + dy k) (j.val + dx k) then 0 else 1) else
          if b.val = 1 then (if 1 ≤ padAt C (i.val + dy k) (j.val + dx k) then 1 else 0) else 0 := fun i j k h => by
    have hb := refLgopIdx_apply c t C hc hC i j k h
    rw [lgopPair_bin _ _ _ (by rw [hb]; split <;> decide), hb, ← two_bins _ _ _ one_pos]
    congr 2
    split <;> rfl
  refine (Finset.sum_congr rfl fun i _ => Finset.sum_congr rfl fun j _ => Finset.sum_congr rfl fun k _ => e i j k _).trans ?_
  by_cases h0 : b.val = 0
  · simp only [if_pos h0]
    exact nbr_sum_not C
  · by_cases h1 : b.val = 1
    · simp only [if_neg h0, if_pos h1]
      exact nbr_sum C
    · simp only [if_neg h0, if_neg h1, Finset.sum_const_zero]

/-- The histogram of the comparison's bins: the pixels not above the mean, those above it, and nothing else. -/
theorem refNlbp_apply (c : FVec Ideal S32x224x224 .f32) (t : Fin 32) (C : Fin 224 → Fin 224 → ℝ)
    (hc : ∀ i j, c (ix3 t i j) = ((C i j : ℝ) : EReal)) (b : Fin 128) :
    refNlbp c (ix2 t b)
      = ((if b.val = 0 then 50176 - meanCount C else if b.val = 126 then meanCount C else 0 : ℝ) : EReal) := by
  have hz : (broadcastInDim S32x128 ![] bcast_S_S32x128 (constant (F := Ideal) S_ .f32 0x00000000#32)) (ix2 t b) = (0 : EReal) := by
    pointwise []
  have ho : ∀ n, (broadcastInDim S32x50176 ![] bcast_S_S32x50176 (constant (F := Ideal) S_ .f32 0x3F800000#32)) (ix2 t n) = (1 : EReal) := fun n => by
    pointwise []
  unfold refNlbp
  rw [count_ones _ rfl rfl rfl _ _ _ (nlbpPair_row _) t b hz ho]
  refine congrArg (fun r : ℝ => (r : EReal)) ?_
  rw [Fin.sum_univ_tiles 224 224 rfl]
  have e : ∀ (i j : Fin 224) (h : i.val * 224 + j.val < 50176),
      (if (refNlbpPair (refNlbpIdx c) (ix3 t ⟨i.val * 224 + j.val, h⟩ 1)).toInt = (b.val : ℤ) then (1 : ℝ) else 0)
      = if b.val = 0 then (if (∑ a, ∑ b, C a b) / 50176 < C i j then 0 else 1) else
          if b.val = 126 then (if (∑ a, ∑ b, C a b) / 50176 < C i j then 1 else 0) else 0 := fun i j h => by
    have hb := refNlbpIdx_apply c t C hc i j h
    rw [nlbpPair_bin _ _ _ (by rw [hb]; split <;> decide), hb, ← two_bins _ _ _ (by decide)]
    congr 2
    split <;> rfl
  refine (Finset.sum_congr rfl fun i _ => Finset.sum_congr rfl fun j _ => e i j _).trans ?_
  by_cases h0 : b.val = 0
  · simp only [if_pos h0]
    exact mean_sum_not C
  · by_cases h1 : b.val = 126
    · simp only [if_neg h0, if_pos h1]
      rfl
    · simp only [if_neg h0, if_neg h1, Finset.sum_const_zero]

end Cert.Lgop
-- ==== Proof.RefFeature.lean ====
module

public import proofs.«01_k».proof.Proof.RefPixel
public import proofs.«01_k».proof.Proof.RefHist
public import proofs.«01_k».proof.Proof.Feature

@[expose] public section

set_option maxRecDepth 16384

noncomputable section

namespace Cert.Lgop

open Idealize.ShloMosaic Idealize.ShloMosaic.TcCoe Idealize.SL.Sem Idealize.ShloMosaic.StableHlo
open Cert.ReferenceIdeal Cert.ReferenceIdeal.Gen

/-- A row of real numbers over its length. -/
theorem refNorm_apply (f : FVec Ideal S32x1152 .f32) (t : Fin 32) (g : ℕ → ℝ) (hf : ∀ n : Fin 1152, f (ix2 t n) = ((g n.val : ℝ) : EReal))
    (n : Fin 1152) :
    refNorm f (ix2 t n) = ((g n.val : ℝ) : EReal)
      * Ideal.rsqrt (max ((∑ n : Fin 1152, g n.val * g n.val : ℝ) : EReal) (Ideal.ofBits .f32 0x2B8CBCCC#32)) := by
  pointwise [refNorm]
  simp only [hf, ← EReal.coe_mul, coe_sum]
  try rfl

/-- The row of counts, histogram by histogram. -/
theorem laddered (h s v : Fin 224 → Fin 224 → ℝ) (n : ℕ) (hn : n < 1152) :
    (if n < 256 then (if n = 0 then 401408 - nbrCount h else if n = 1 then nbrCount h else 0)
    else if n - 256 < 128 then (if n - 256 = 0 then 50176 - meanCount h else if n - 256 = 126 then meanCount h else 0)
    else if n - 256 - 128 < 256 then (if n - 256 - 128 = 0 then 401408 - nbrCount s else if n - 256 - 128 = 1 then nbrCount s else 0)
    else if n - 256 - 128 - 256 < 128 then
      (if n - 256 - 128 - 256 = 0 then 50176 - meanCount s else if n - 256 - 128 - 256 = 126 then meanCount s else 0)
    else if n - 256 - 128 - 256 - 128 < 256 then
      (if n - 256 - 128 - 256 - 128 = 0 then 401408 - nbrCount v else if n - 256 - 128 - 256 - 128 = 1 then nbrCount v else 0)
    else (if n - 256 - 128 - 256 - 128 - 256 = 0 then 50176 - meanCount v
      else if n - 256 - 128 - 256 - 128 - 256 = 126 then meanCount v else 0)) = counts h s v n := by
  unfold counts
  generalize 401408 - nbrCount h = ah
  generalize nbrCount h = bh
  generalize 50176 - meanCount h = ch
  generalize meanCount h = dh
  generalize 401408 - nbrCount s = gs
  generalize nbrCount s = bs
  generalize 50176 - meanCount s = cs
  generalize meanCount s = ds
  generalize 401408 - nbrCount v = av
  generalize nbrCount v = bv
  generalize 50176 - meanCount v = cv
  generalize meanCount v = dv
  by_cases e : n = 0 ∨ n = 1 ∨ n = 256 ∨ n = 382 ∨ n = 384 ∨ n = 385 ∨ n = 640 ∨ n = 766 ∨ n = 768 ∨ n = 769 ∨ n = 1024 ∨ n = 1150
  · rcases e with rfl | rfl | rfl | rfl | rfl | rfl | rfl | rfl | rfl | rfl | rfl | rfl <;> simp
  · have z : ∀ k x y, n ≠ k → (if n = k then x else y : ℝ) = y := fun k x y p => if_neg p
    rw [z 1150 _ _ (by omega), z 1024 _ _ (by omega), z 769 _ _ (by omega), z 768 _ _ (by omega), z 766 _ _ (by omega),
      z 640 _ _ (by omega), z 385 _ _ (by omega), z 384 _ _ (by omega), z 382 _ _ (by omega), z 256 _ _ (by omega)]
    split_ifs <;> first | rfl | omega

/-- Six histograms side by side are the row of counts. -/
theorem refJoin_apply (lh : FVec Ideal S32x256 .f32) (nh : FVec Ideal S32x128 .f32) (ls : FVec Ideal S32x256 .f32) (ns : FVec Ideal S32x128 .f32)
    (lv : FVec Ideal S32x256 .f32) (nv : FVec Ideal S32x128 .f32) (t : Fin 32) (h s v : Fin 224 → Fin 224 → ℝ)
    (hlh : ∀ b : Fin 256, lh (ix2 t b) = ((if b.val = 0 then 401408 - nbrCount h else if b.val = 1 then nbrCount h else 0 : ℝ) : EReal))
    (hnh : ∀ b : Fin 128, nh (ix2 t b) = ((if b.val = 0 then 50176 - meanCount h else if b.val = 126 then meanCount h else 0 : ℝ) : EReal))
    (hls : ∀ b : Fin 256, ls (ix2 t b) = ((if b.val = 0 then 401408 - nbrCount s else if b.val = 1 then nbrCount s else 0 : ℝ) : EReal))
    (hns : ∀ b : Fin 128, ns (ix2 t b) = ((if b.val = 0 then 50176 - meanCount s else if b.val = 126 then meanCount s else 0 : ℝ) : EReal))
    (hlv : ∀ b : Fin 256, lv (ix2 t b) = ((if b.val = 0 then 401408 - nbrCount v else if b.val = 1 then nbrCount v else 0 : ℝ) : EReal))
    (hnv : ∀ b : Fin 128, nv (ix2 t b) = ((if b.val = 0 then 50176 - meanCount v else if b.val = 126 then meanCount v else 0 : ℝ) : EReal))
    (n : Fin 1152) : refJoin lh nh ls ns lv nv (ix2 t n) = ((counts h s v n.val : ℝ) : EReal) := by
  have hn := n.isLt
  pointwise [refJoin]
  rw [← laddered h s v n.val n.isLt]
  by_cases h0 : n.val < 256
  · rw [dif_pos h0, if_pos h0, hlh]
  rw [dif_neg h0, if_neg h0]
  by_cases h1 : n.val - 256 < 128
  · rw [dif_pos h1, if_pos h1, hnh]
  rw [dif_neg h1, if_neg h1]
  by_cases h2 : n.val - 256 - 128 < 256
  · rw [dif_pos h2, if_pos h2, hls]
  rw [dif_neg h2, if_neg h2]
  by_cases h3 : n.val - 256 - 128 - 256 < 128
  · rw [dif_pos h3, if_pos h3, hns]
  rw [dif_neg h3, if_neg h3]
  by_cases h4 : n.val - 256 - 128 - 256 - 128 < 256
  · rw [dif_pos h4, if_pos h4, hlv]
  rw [dif_neg h4, if_neg h4]
  rw [hnv]

/-- The reference's features of an image of colours in the unit range. -/
theorem refFeature (X : FVec Ideal S32x224x224x3 .f32) (t : Fin 32) (x : Fin 224 → Fin 224 → Fin 3 → ℝ) (hu : InUnit x)
    (hx : ∀ i j c, X (ix4 t i j c) = ((x i j c : ℝ) : EReal)) (n : Fin 1152) :
    refNorm (refFeat X) (ix2 t n) = imageFeature x n.val := by
  have hH : ∀ i j, refH X (ix3 t i j) = ((planeH x i j : ℝ) : EReal) := fun i j => by
    rw [refH_apply X t i j _ _ _ (hx i j 0) (hx i j 1) (hx i j 2), hx, hx, hx, (planeH_real x i j).1]
  have hS : ∀ i j, refS X (ix3 t i j) = ((planeS x i j : ℝ) : EReal) := fun i j => by
    rw [refS_apply, hx, hx, hx, (planeS_real x hu i j).1]
  have hV : ∀ i j, refV X (ix3 t i j) = ((planeV x i j : ℝ) : EReal) := fun i j => by
    rw [refV_apply, hx, hx, hx, (planeV_real x hu i j).1]
  rw [refNorm_apply (refFeat X) t (counts (planeH x) (planeS x) (planeV x)), counts_sum]
  · rfl
  · exact refJoin_apply _ _ _ _ _ _ t _ _ _
      (refLgop_apply _ t _ hH fun i j => (planeH_real x i j).2) (refNlbp_apply _ t _ hH)
      (refLgop_apply _ t _ hS fun i j => (planeS_real x hu i j).2) (refNlbp_apply _ t _ hS)
      (refLgop_apply _ t _ hV fun i j => (planeV_real x hu i j).2) (refNlbp_apply _ t _ hV)

end Cert.Lgop
-- ==== Proof.Equation.lean ====
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Unit
public import proofs.«01_k».proof.Proof.KernelArray
public import proofs.«01_k».proof.Proof.RefTerm
public import proofs.«01_k».proof.Proof.RefFeature
public import Idealize.ShloMosaic.Lib.Claim

@[expose] public section

set_option maxRecDepth 16384

noncomputable section

namespace Cert.Lgop

open Idealize.ShloMosaic Idealize.ShloMosaic.TcCoe Idealize.SL.Sem Idealize.ShloMosaic.StableHlo

/-- The reference's features are the kernel's result, for images in the unit range. -/
theorem features_eq (m : (ℓ : Loc Cert.KernelIdeal.nD Cert.KernelIdeal.τ Cert.KernelIdeal.sig) → Buf (Elt Ideal) ℓ)
    (c : Dev Cert.KernelIdeal.nD) (X : FVec Ideal Cert.ReferenceIdeal.S32x224x224x3 .f32)
    (hX : X = m ((c.tc : Thread Cert.KernelIdeal.nD Cert.KernelIdeal.τ).loc Cert.KernelIdeal.main_arg0))
    (h : Cert.Pre_unit_range.fn (F := Ideal) X = fun _ => 1#1) :
    refNorm (refFeat X) = (Pipeline.afterTail₀ Cert.KernelIdeal.cfgs (Cert.KernelIdeal.Gen.dats (F := Ideal) m) 0 (Cert.KernelIdeal.Gen.V0 m)
      [Cert.KernelIdeal.Gen.hostOps1] c Cert.KernelIdeal.main_v2 : FVec Ideal Cert.KernelIdeal.S32x1152 .f32) := by
  subst hX
  funext y
  idx_vars y
  rw [refFeature _ y0 _ (colours_unit _ h y0) (fun i j k => real_entry _ h y0 i j k) y1]
  exact (kernel_apply m c _ (fun t i j k => real_entry _ h t i j k) (fun t => colours_unit _ h t) y0 y1).symm

/-- Kernel and reference compute the same function of images in the unit range. -/
theorem algebraic : Cert.algebraic_KernelIdeal_ReferenceIdeal_pre_unit_range := by
  pair_intro
  · run_from Cert.KernelIdeal.Gen.run_main m g
    all_goals exact Cert.KernelIdeal.Gen.W_main_arg0 m _ _
  · run_from Cert.ReferenceIdeal.Value.run m' g'
    have e := features_eq m c _ rfl (hpre c)
    rw [refFeat_eq]
    refine Eq.trans ?_ e
    rw [launchContents_devRef, hagree c]
    rfl

end Cert.Lgop
-- ==== Proof.lean ====
/- The certificate of the histogram kernel: its five claims, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

public import proofs.«01_k».proof.Proof.Gen.ReferenceIdeal.Run
public import proofs.«01_k».proof.Proof.Gen.ReferenceIdeal
public import proofs.«01_k».proof.Proof.Gen.Pre_unit_range
public import proofs.«01_k».proof.Proof.Equation
public import Idealize.ShloMosaic.Adequacy
public import Idealize.ShloMosaic.Init

@[expose] public section

noncomputable section

namespace Cert.Proof

open Idealize.ShloMosaic Idealize.SL.Sem

/-- The reference terminates, leaves its argument unchanged and, having no semaphore, every counter at zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant is what the kernel's literal rounds. -/
theorem preserves : Cert.preserves_Kernel_KernelIdeal :=
  IdealRules.named_const.statement Cert.KernelIdeal.κ "inv_npix" .f32 0x37A72F05#32 ((50176⁻¹ : ℝ) : EReal) rfl

/-- All the claims. -/
theorem claim : Cert.Claim :=
  ⟨Cert.Kernel.Gen.facts, Cert.KernelIdeal.Gen.facts, Cert.ReferenceIdeal.Gen.facts, Cert.Pre_unit_range.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    preserves,
    Cert.Lgop.algebraic⟩

end Cert.Proof

end
